-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_idx_in_rows : Cert.Pre_idx_in_rows.Facts] (m : (ℓ : Loc Cert.Reference.nD Cert.Reference.τ Cert.Reference.sig) → Buf (Elt Bits) ℓ) : Prop :=
  ∀ c : Dev Cert.Reference.nD,
    (Cert.Pre_idx_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_idx_in_rows : Cert.Pre_idx_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v13)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v13) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_idx_in_rows : Cert.Pre_idx_in_rows.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ quiescent_Reference (hReference := hReference) (hPre_idx_in_rows := hPre_idx_in_rows)
    ∧ preserves_Kernel_KernelIdeal
    ∧ algebraic_KernelIdeal_ReferenceIdeal (hKernelIdeal := hKernelIdeal) (hReferenceIdeal := hReferenceIdeal) (hPre_idx_in_rows := hPre_idx_in_rows)
    ∧ bitexact_Kernel_Reference (hKernel := hKernel) (hReference := hReference) (hPre_idx_in_rows := hPre_idx_in_rows)
-- ==== Pre_idx_in_rows.lean ====
abbrev S1024x200 : Shape := ⟨2, ![1024, 200]⟩
abbrev S1000000x64 : Shape := ⟨2, ![1000000, 64]⟩
abbrev S_ : Shape := ⟨0, ![]⟩

class Facts : Prop where
  bcast_S_S1024x200 : S_.BroadcastsInDim S1024x200 (![] : Fin 0 → Fin S1024x200.rank)

variable [Facts]

def fn {F : FTy → Type} [FloatOps F] (main_arg0 : IVec S1024x200 32) (main_arg1 : FVec F S1000000x64 .f32) : IVec S1024x200 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 1000000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  main_v4
-- ==== Kernel.lean ====
abbrev S1024x200 : Shape := ⟨2, ![1024, 200]⟩
abbrev S1000000x64 : Shape := ⟨2, ![1000000, 64]⟩
abbrev S64x1000000 : Shape := ⟨2, ![64, 1000000]⟩
abbrev S503808x128 : Shape := ⟨2, ![503808, 128]⟩
abbrev S64x4096 : Shape := ⟨2, ![64, 4096]⟩
abbrev S4096x128 : Shape := ⟨2, ![4096, 128]⟩
abbrev S4096x64 : Shape := ⟨2, ![4096, 64]⟩
abbrev S204800 : Shape := ⟨1, ![204800]⟩
abbrev S_ : Shape := ⟨0, ![]⟩
abbrev S204800x128 : Shape := ⟨2, ![204800, 128]⟩
abbrev S512 : Shape := ⟨1, ![512]⟩
abbrev S2 : Shape := ⟨1, ![2]⟩
abbrev S2x256x128 : Shape := ⟨3, ![2, 256, 128]⟩
abbrev S256 : Shape := ⟨1, ![256]⟩
abbrev S1 : Shape := ⟨1, ![1]⟩
abbrev S1x256x128 : Shape := ⟨3, ![1, 256, 128]⟩
abbrev S256x128 : Shape := ⟨2, ![256, 128]⟩
abbrev S204800x64 : Shape := ⟨2, ![204800, 64]⟩
abbrev S2048x128 : Shape := ⟨2, ![2048, 128]⟩
abbrev S2048 : Shape := ⟨1, ![2048]⟩
abbrev S2048x64 : Shape := ⟨2, ![2048, 64]⟩
abbrev S2048x1 : Shape := ⟨2, ![2048, 1]⟩
abbrev S1024x200x64 : Shape := ⟨3, ![1024, 200, 64]⟩

abbrev nBuf : Table → Nat
  | .hbm => 19
  | .local .tc .vmem => 12
  | .local .scVector .vmem => 2
  | _ => 0

abbrev bufTy : (tb : Table) → Fin (nBuf tb) → BufTy
  | .hbm, ⟨0, _⟩ => ⟨S1024x200, .i32⟩
  | .hbm, ⟨1, _⟩ => ⟨S1000000x64, .f32⟩
  | .hbm, ⟨2, _⟩ => ⟨S64x1000000, .f32⟩
  | .hbm, ⟨3, _⟩ => ⟨S503808x128, .f32⟩
  | .hbm, ⟨4, _⟩ => ⟨S204800, .i32⟩
  | .hbm, ⟨5, _⟩ => ⟨S_, .i32⟩
  | .hbm, ⟨6, _⟩ => ⟨S204800, .i32⟩
  | .hbm, ⟨7, _⟩ => ⟨S204800, .i1⟩
  | .hbm, ⟨8, _⟩ => ⟨S204800, .i32⟩
  | .hbm, ⟨9, _⟩ => ⟨S_, .i32⟩
  | .hbm, ⟨10, _⟩ => ⟨S204800, .i32⟩
  | .hbm, ⟨11, _⟩ => ⟨S204800, .i1⟩
  | .hbm, ⟨12, _⟩ => ⟨S_, .i32⟩
  | .hbm, ⟨13, _⟩ => ⟨S204800, .i32⟩
  | .hbm, ⟨14, _⟩ => ⟨S204800, .i32⟩
  | .hbm, ⟨15, _⟩ => ⟨S204800, .i32⟩
  | .hbm, ⟨16, _⟩ => ⟨S204800x128, .f32⟩
  | .hbm, ⟨17, _⟩ => ⟨S204800x64, .f32⟩
  | .hbm, ⟨18, _⟩ => ⟨S1024x200x64, .f32⟩
  | .local .tc .vmem, ⟨0, _⟩ => ⟨S64x4096, .f32⟩
  | .local .tc .vmem, ⟨1, _⟩ => ⟨S64x4096, .f32⟩
  | .local .tc .vmem, ⟨2, _⟩ => ⟨S64x4096, .f32⟩
  | .local .tc .vmem, ⟨3, _⟩ => ⟨S64x4096, .f32⟩
  | .local .tc .vmem, ⟨4, _⟩ => ⟨S4096x128, .f32⟩
  | .local .tc .vmem, ⟨5, _⟩ => ⟨S4096x128, .f32⟩
  | .local .tc .vmem, ⟨6, _⟩ => ⟨S2048x128, .f32⟩
  | .local .tc .vmem, ⟨7, _⟩ => ⟨S2048x128, .f32⟩
  | .local .tc .vmem, ⟨8, _⟩ => ⟨S2048, .i32⟩
  | .local .tc .vmem, ⟨9, _⟩ => ⟨S2048, .i32⟩
  | .local .tc .vmem, ⟨10, _⟩ => ⟨S2048x64, .f32⟩
  | .local .tc .vmem, ⟨11, _⟩ => ⟨S2048x64, .f32⟩
  | .local .scVector .vmem, ⟨0, _⟩ => ⟨S512, .i32⟩
  | .local .scVector .vmem, ⟨1, _⟩ => ⟨S2x256x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v1_scv : Ref sig .scVector := ⟨.hbm, 3, rfl⟩
abbrev main_v10_scv : Ref sig .scVector := ⟨.hbm, 15, rfl⟩
abbrev main_v11_scv : Ref sig .scVector := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c122_i32 : BitVec 32 := 122#32
  let v0 : BitVec 32 := Scalar.addi arg0 c122_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 : Fin 1 → Nat :=
  let c0_i32_13_r0 : BitVec 32 := 0#32
  let c2_i32_r0 : BitVec 32 := 2#32
  let v21_r0 : BitVec 32 := Scalar.remui c0_i32_13_r0 c2_i32_r0
  let c256_i32_14_r0 : BitVec 32 := 256#32
  let v23_r0 : BitVec 32 := Scalar.muli v21_r0 c256_i32_14_r0
  let c0_i32_15_r0 : BitVec 32 := 0#32
  let v24_r0 : BitVec 32 := Scalar.addi v23_r0 c0_i32_15_r0
  ![v24_r0.toNat]
def k1_off2 (i : grid1.Coords) : Fin 1 → Nat :=
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v7_r0 : BitVec 32 := Scalar.addi c0_i32_1_r0 v4
  let v22_r0 : BitVec 32 := Scalar.muli c256_i32_r0 v7_r0
  ![v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_22_r0 : BitVec 32 := 0#32
  let c25_i32_23_r0 : BitVec 32 := 25#32
  let v32_r0 : BitVec 32 := Scalar.addi c0_i32_22_r0 c25_i32_23_r0
  let c1_i32_24_r0 : BitVec 32 := 1#32
  ⟨c0_i32_22_r0, v32_r0, c1_i32_24_r0⟩
def k1_off4 (arg6_r0 : BitVec 32) : Fin 1 → Nat :=
  let c2_i32_95_r0 : BitVec 32 := 2#32
  let v145_r0 : BitVec 32 := Scalar.remui arg6_r0 c2_i32_95_r0
  let c256_i32_97_r0 : BitVec 32 := 256#32
  let v147_r0 : BitVec 32 := Scalar.muli v145_r0 c256_i32_97_r0
  let c0_i32_98_r0 : BitVec 32 := 0#32
  let v148_r0 : BitVec 32 := Scalar.addi v147_r0 c0_i32_98_r0
  ![v148_r0.toNat]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let true_57_r0 : BitVec 1 := 1#1
  let c1_i32_56_r0 : BitVec 32 := 1#32
  let v72_r0 : BitVec 32 := Scalar.addi arg10_r0 c1_i32_56_r0
  let v73_r0 : BitVec 32 := Scalar.select true_57_r0 v72_r0 arg10_r0
  let c25_i32_58_r0 : BitVec 32 := 25#32
  let v74_r0 : BitVec 1 := Scalar.cmpi .eq v73_r0 c25_i32_58_r0
  let c0_i32_59_r0 : BitVec 32 := 0#32
  let v75_r0 : BitVec 32 := Scalar.select v74_r0 c0_i32_59_r0 v73_r0
  let v76_r0 : BitVec 32 := Scalar.addi v75_r0 v4
  let v82_r0 : BitVec 1 := Scalar.cmpi .ne v66_r0 v76_r0
  let c0_i32_22_r0 : BitVec 32 := 0#32
  let c1_i32_24_r0 : BitVec 32 := 1#32
  let arg5_r0 : BitVec 32 := Scf.iv c0_i32_22_r0 c1_i32_24_r0 k1_t1
  let c24_i32_64_r0 : BitVec 32 := 24#32
  let v83_r0 : BitVec 1 := Scalar.cmpi .sge arg5_r0 c24_i32_64_r0
  let true_65_r0 : BitVec 1 := 1#1
  let v84_r0 : BitVec 1 := Scalar.xori v83_r0 true_65_r0
  let v85_r0 : BitVec 1 := Scalar.andi v82_r0 v84_r0
  let true_66_r0 : BitVec 1 := 1#1
  let v86_r0 : BitVec 1 := Scalar.andi v85_r0 true_66_r0
  let v87_r0 : BitVec 32 := Scalar.extui v86_r0
  let c0_i32_67_r0 : BitVec 32 := 0#32
  let v88_r0 : BitVec 1 := Scalar.cmpi .ne v87_r0 c0_i32_67_r0
  v88_r0

def k1_off5 (i : grid1.Coords) (arg10_r0 : BitVec 32) : Fin 1 → Nat :=
  let c256_i32_96_r0 : BitVec 32 := 256#32
  let true_57_r0 : BitVec 1 := 1#1
  let c1_i32_56_r0 : BitVec 32 := 1#32
  let v72_r0 : BitVec 32 := Scalar.addi arg10_r0 c1_i32_56_r0
  let v73_r0 : BitVec 32 := Scalar.select true_57_r0 v72_r0 arg10_r0
  let c25_i32_58_r0 : BitVec 32 := 25#32
  let v74_r0 : BitVec 1 := Scalar.cmpi .eq v73_r0 c25_i32_58_r0
  let c0_i32_59_r0 : BitVec 32 := 0#32
  let v75_r0 : BitVec 32 := Scalar.select v74_r0 c0_i32_59_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v76_r0 : BitVec 32 := Scalar.addi v75_r0 v4
  let v146_r0 : BitVec 32 := Scalar.muli c256_i32_96_r0 v76_r0
  ![v146_r0.toNat]
def k1_off6 (arg6_r0 : BitVec 32) : Fin 1 → Nat :=
  let c2_i32_95_r0 : BitVec 32 := 2#32
  let v145_r0 : BitVec 32 := Scalar.remui arg6_r0 c2_i32_95_r0
  ![v145_r0.toNat]
def k1_off7 (arg7_r0 : BitVec 32) : Fin 1 → Nat :=
  let c2_i32_96_r0 : BitVec 32 := 2#32
  let v146_r0 : BitVec 32 := Scalar.remui arg7_r0 c2_i32_96_r0
  let c256_i32_97_r0 : BitVec 32 := 256#32
  let v147_r0 : BitVec 32 := Scalar.muli v146_r0 c256_i32_97_r0
  let c0_i32_98_r0 : BitVec 32 := 0#32
  let v148_r0 : BitVec 32 := Scalar.addi v147_r0 c0_i32_98_r0
  ![v148_r0.toNat]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let true_53_r0 : BitVec 1 := 1#1
  let c1_i32_52_r0 : BitVec 32 := 1#32
  let v67_r0 : BitVec 32 := Scalar.subi arg10_r0 c1_i32_52_r0
  let v68_r0 : BitVec 32 := Scalar.select true_53_r0 v67_r0 arg10_r0
  let c_m1_i32_54_r0 : BitVec 32 := 4294967295#32
  let v69_r0 : BitVec 1 := Scalar.cmpi .eq v68_r0 c_m1_i32_54_r0
  let c24_i32_55_r0 : BitVec 32 := 24#32
  let v70_r0 : BitVec 32 := Scalar.select v69_r0 c24_i32_55_r0 v68_r0
  let v71_r0 : BitVec 32 := Scalar.addi v70_r0 v4
  let v96_r0 : BitVec 1 := Scalar.cmpi .ne v66_r0 v71_r0
  let c0_i32_22_r0 : BitVec 32 := 0#32
  let c1_i32_24_r0 : BitVec 32 := 1#32
  let arg5_r0 : BitVec 32 := Scf.iv c0_i32_22_r0 c1_i32_24_r0 k1_t1
  let c0_i32_50_r0 : BitVec 32 := 0#32
  let v64_r0 : BitVec 1 := Scalar.cmpi .eq arg5_r0 c0_i32_50_r0
  let v97_r0 : BitVec 1 := Scalar.ori v96_r0 v64_r0
  let c0_i32_72_r0 : BitVec 32 := 0#32
  let v98_r0 : BitVec 1 := Scalar.cmpi .sge arg5_r0 c0_i32_72_r0
  let v99_r0 : BitVec 1 := Scalar.andi v97_r0 v98_r0
  let v100_r0 : BitVec 32 := Scalar.extui v99_r0
  let c0_i32_73_r0 : BitVec 32 := 0#32
  let v101_r0 : BitVec 1 := Scalar.cmpi .ne v100_r0 c0_i32_73_r0
  v101_r0

def k1_off8 (i : grid1.Coords) (arg10_r0 : BitVec 32) : Fin 1 → Nat :=
  let c256_i32_95_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let v145_r0 : BitVec 32 := Scalar.muli c256_i32_95_r0 v66_r0
  ![v145_r0.toNat]
def k1_off9 (arg7_r0 : BitVec 32) : Fin 1 → Nat :=
  let c2_i32_96_r0 : BitVec 32 := 2#32
  let v146_r0 : BitVec 32 := Scalar.remui arg7_r0 c2_i32_96_r0
  ![v146_r0.toNat]
def k1_off10 (arg8_r0 : BitVec 32) : Fin 3 → Nat :=
  let c2_i32_78_r0 : BitVec 32 := 2#32
  let v110_r0 : BitVec 32 := Scalar.remui arg8_r0 c2_i32_78_r0
  let c0_i32_95_r1 : BitVec 32 := 0#32
  let c0_i32_96_r1 : BitVec 32 := 0#32
  ![v110_r0.toNat, 0, 0]

def k1_chk2 (arg8_r0 : BitVec 32) : Prop :=
  (∀ a, (k1_off10 arg8_r0) a + S1x256x128.size a ≤ S2x256x128.size a)
theorem k1_off10_inb : ∀ (arg8_r0 : BitVec 32) (k1_hw2 : k1_chk2 arg8_r0), ∀ a, (k1_off10 arg8_r0) a + S1x256x128.size a ≤ S2x256x128.size a := fun arg8_r0 k1_hw2 => k1_hw2

def k1_off11 (arg7_r0 : BitVec 32) : Fin 1 → Nat :=
  let c2_i32_76_r0 : BitVec 32 := 2#32
  let v108_r0 : BitVec 32 := Scalar.remui arg7_r0 c2_i32_76_r0
  let c256_i32_77_r0 : BitVec 32 := 256#32
  let v109_r0 : BitVec 32 := Scalar.muli v108_r0 c256_i32_77_r0
  ![v109_r0.toNat]

def k1_chk3 (arg7_r0 : BitVec 32) : Prop :=
  (∀ a, (k1_off11 arg7_r0) a + S256.size a ≤ S512.size a)
theorem k1_off11_inb : ∀ (arg7_r0 : BitVec 32) (k1_hw3 : k1_chk3 arg7_r0), ∀ a, (k1_off11 arg7_r0) a + S256.size a ≤ S512.size a := fun arg7_r0 k1_hw3 => k1_hw3

def k1_off12 (arg8_r0 : BitVec 32) : Fin 3 → Nat :=
  let c2_i32_95_r0 : BitVec 32 := 2#32
  let v145_r0 : BitVec 32 := Scalar.remui arg8_r0 c2_i32_95_r0
  let c0_i32_97_r0 : BitVec 32 := 0#32
  let c0_i32_98_r0 : BitVec 32 := 0#32
  ![v145_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let true_57_r0 : BitVec 1 := 1#1
  let c1_i32_56_r0 : BitVec 32 := 1#32
  let v72_r0 : BitVec 32 := Scalar.addi arg10_r0 c1_i32_56_r0
  let v73_r0 : BitVec 32 := Scalar.select true_57_r0 v72_r0 arg10_r0
  let c25_i32_58_r0 : BitVec 32 := 25#32
  let v74_r0 : BitVec 1 := Scalar.cmpi .eq v73_r0 c25_i32_58_r0
  let c0_i32_59_r0 : BitVec 32 := 0#32
  let v75_r0 : BitVec 32 := Scalar.select v74_r0 c0_i32_59_r0 v73_r0
  let v76_r0 : BitVec 32 := Scalar.addi v75_r0 v4
  let v116_r0 : BitVec 1 := Scalar.cmpi .ne v66_r0 v76_r0
  let c0_i32_22_r0 : BitVec 32 := 0#32
  let c1_i32_24_r0 : BitVec 32 := 1#32
  let arg5_r0 : BitVec 32 := Scf.iv c0_i32_22_r0 c1_i32_24_r0 k1_t1
  let c24_i32_51_r0 : BitVec 32 := 24#32
  let v65_r0 : BitVec 1 := Scalar.cmpi .eq arg5_r0 c24_i32_51_r0
  let v117_r0 : BitVec 1 := Scalar.ori v116_r0 v65_r0
  let v118_r0 : BitVec 32 := Scalar.extui v117_r0
  let c0_i32_80_r0 : BitVec 32 := 0#32
  let v119_r0 : BitVec 1 := Scalar.cmpi .ne v118_r0 c0_i32_80_r0
  v119_r0

def k1_off13 (i : grid1.Coords) (arg10_r0 : BitVec 32) : Fin 2 → Nat :=
  let c256_i32_96_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let v146_r0 : BitVec 32 := Scalar.muli c256_i32_96_r0 v66_r0
  let c0_i32_99_r0 : BitVec 32 := 0#32
  ![v146_r0.toNat, 0]
def k1_off14 (arg8_r0 : BitVec 32) : Fin 1 → Nat :=
  let c2_i32_95_r0 : BitVec 32 := 2#32
  let v145_r0 : BitVec 32 := Scalar.remui arg8_r0 c2_i32_95_r0
  ![v145_r0.toNat]
def k1_off15 (arg9_r0 : BitVec 32) : Fin 3 → Nat :=
  let c2_i32_95_r0 : BitVec 32 := 2#32
  let v145_r0 : BitVec 32 := Scalar.remui arg9_r0 c2_i32_95_r0
  let c0_i32_97_r0 : BitVec 32 := 0#32
  let c0_i32_98_r0 : BitVec 32 := 0#32
  ![v145_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let true_53_r0 : BitVec 1 := 1#1
  let c1_i32_52_r0 : BitVec 32 := 1#32
  let v67_r0 : BitVec 32 := Scalar.subi arg10_r0 c1_i32_52_r0
  let v68_r0 : BitVec 32 := Scalar.select true_53_r0 v67_r0 arg10_r0
  let c_m1_i32_54_r0 : BitVec 32 := 4294967295#32
  let v69_r0 : BitVec 1 := Scalar.cmpi .eq v68_r0 c_m1_i32_54_r0
  let c24_i32_55_r0 : BitVec 32 := 24#32
  let v70_r0 : BitVec 32 := Scalar.select v69_r0 c24_i32_55_r0 v68_r0
  let v71_r0 : BitVec 32 := Scalar.addi v70_r0 v4
  let v129_r0 : BitVec 1 := Scalar.cmpi .ne v66_r0 v71_r0
  let c0_i32_22_r0 : BitVec 32 := 0#32
  let c1_i32_24_r0 : BitVec 32 := 1#32
  let arg5_r0 : BitVec 32 := Scf.iv c0_i32_22_r0 c1_i32_24_r0 k1_t1
  let c0_i32_50_r0 : BitVec 32 := 0#32
  let v64_r0 : BitVec 1 := Scalar.cmpi .eq arg5_r0 c0_i32_50_r0
  let true_86_r0 : BitVec 1 := 1#1
  let v130_r0 : BitVec 1 := Scalar.xori v64_r0 true_86_r0
  let v131_r0 : BitVec 1 := Scalar.andi v129_r0 v130_r0
  let v132_r0 : BitVec 32 := Scalar.extui v131_r0
  let c0_i32_87_r0 : BitVec 32 := 0#32
  let v133_r0 : BitVec 1 := Scalar.cmpi .ne v132_r0 c0_i32_87_r0
  v133_r0

def k1_off16 (i : grid1.Coords) (arg10_r0 : BitVec 32) : Fin 2 → Nat :=
  let c256_i32_96_r0 : BitVec 32 := 256#32
  let true_53_r0 : BitVec 1 := 1#1
  let c1_i32_52_r0 : BitVec 32 := 1#32
  let v67_r0 : BitVec 32 := Scalar.subi arg10_r0 c1_i32_52_r0
  let v68_r0 : BitVec 32 := Scalar.select true_53_r0 v67_r0 arg10_r0
  let c_m1_i32_54_r0 : BitVec 32 := 4294967295#32
  let v69_r0 : BitVec 1 := Scalar.cmpi .eq v68_r0 c_m1_i32_54_r0
  let c24_i32_55_r0 : BitVec 32 := 24#32
  let v70_r0 : BitVec 32 := Scalar.select v69_r0 c24_i32_55_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v71_r0 : BitVec 32 := Scalar.addi v70_r0 v4
  let v146_r0 : BitVec 32 := Scalar.muli c256_i32_96_r0 v71_r0
  let c0_i32_99_r0 : BitVec 32 := 0#32
  ![v146_r0.toNat, 0]
def k1_off17 (arg9_r0 : BitVec 32) : Fin 1 → Nat :=
  let c2_i32_95_r0 : BitVec 32 := 2#32
  let v145_r0 : BitVec 32 := Scalar.remui arg9_r0 c2_i32_95_r0
  ![v145_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S256.size a ≤ S512.size a) ∧
  (∀ (k1_h1 : k1_cond1 i k1_t1 arg10_r0 = 1#1), ∀ a, (k1_off5 i arg10_r0) a + S256.size a ≤ S204800.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S256.size a ≤ S512.size a) ∧
  (∀ (k1_h2 : k1_cond2 i k1_t1 arg10_r0 = 1#1), ∀ a, (k1_off8 i arg10_r0) a + S256.size a ≤ S204800.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x256x128.size a ≤ S2x256x128.size a) ∧
  (∀ (k1_h5 : k1_cond5 i k1_t1 arg10_r0 = 1#1), ∀ a, (k1_off13 i arg10_r0) a + S256x128.size a ≤ S204800x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x256x128.size a ≤ S2x256x128.size a) ∧
  (∀ (k1_h7 : k1_cond7 i k1_t1 arg10_r0 = 1#1), ∀ a, (k1_off16 i arg10_r0) a + S256x128.size a ≤ S204800x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S256.size a ≤ S512.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S256.size a ≤ S204800.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S256.size a ≤ S512.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S256.size a ≤ S204800.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x256x128.size a ≤ S2x256x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S256x128.size a ≤ S204800x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x256x128.size a ≤ S2x256x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S256x128.size a ≤ S204800x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_42_r0 : BitVec 32 := 2#32
  let v54_r0 : BitVec 32 := Scalar.remui v33_3_r0 c2_i32_42_r0
  let c0_i32_44_r0 : BitVec 32 := 0#32
  let c0_i32_45_r0 : BitVec 32 := 0#32
  ![v54_r0.toNat, 0, 0]

def k1_off19 (i : grid1.Coords) (v33_4_r0 : BitVec 32) : Fin 2 → Nat :=
  let c256_i32_43_r0 : BitVec 32 := 256#32
  let true_27_r0 : BitVec 1 := 1#1
  let c1_i32_26_r0 : BitVec 32 := 1#32
  let v34_r0 : BitVec 32 := Scalar.subi v33_4_r0 c1_i32_26_r0
  let v35_r0 : BitVec 32 := Scalar.select true_27_r0 v34_r0 v33_4_r0
  let c_m1_i32_28_r0 : BitVec 32 := 4294967295#32
  let v36_r0 : BitVec 1 := Scalar.cmpi .eq v35_r0 c_m1_i32_28_r0
  let c24_i32_29_r0 : BitVec 32 := 24#32
  let v37_r0 : BitVec 32 := Scalar.select v36_r0 c24_i32_29_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v38_r0 : BitVec 32 := Scalar.addi v37_r0 v4
  let v55_r0 : BitVec 32 := Scalar.muli c256_i32_43_r0 v38_r0
  let c0_i32_46_r0 : BitVec 32 := 0#32
  ![v55_r0.toNat, 0]

def k1_chk5 (i : grid1.Coords) (v33_4_r0 : BitVec 32) : Prop :=
  (∀ a, (k1_off19 i v33_4_r0) a + S256x128.size a ≤ S204800x128.size a)
theorem k1_off19_inb : ∀ (i : grid1.Coords) (v33_4_r0 : BitVec 32) (k1_hw5 : k1_chk5 i v33_4_r0), ∀ a, (k1_off19 i v33_4_r0) a + S256x128.size a ≤ S204800x128.size a := fun i v33_4_r0 k1_hw5 => k1_hw5

def k1_off20 (v33_3_r0 : BitVec 32) : Fin 1 → Nat :=
  let c2_i32_42_r0 : BitVec 32 := 2#32
  let v54_r0 : BitVec 32 := Scalar.remui v33_3_r0 c2_i32_42_r0
  ![v54_r0.toNat]
def k1_off21 (v33_3_r0 : BitVec 32) : Fin 3 → Nat :=
  let c2_i32_42_r0 : BitVec 32 := 2#32
  let v54_r0 : BitVec 32 := Scalar.remui v33_3_r0 c2_i32_42_r0
  let c0_i32_48_r0 : BitVec 32 := 0#32
  let c0_i32_49_r0 : BitVec 32 := 0#32
  ![v54_r0.toNat, 0, 0]

def k1_chk4 (v33_3_r0 : BitVec 32) : Prop :=
  (∀ a, (k1_off18 v33_3_r0) a + S1x256x128.size a ≤ S2x256x128.size a) ∧
  (∀ a, (k1_off20 v33_3_r0) a + S1.size a ≤ S2.size a) ∧
  (∀ a, (k1_off21 v33_3_r0) a + S1x256x128.size a ≤ S2x256x128.size a)
theorem k1_off18_inb : ∀ (v33_3_r0 : BitVec 32) (k1_hw4 : k1_chk4 v33_3_r0), ∀ a, (k1_off18 v33_3_r0) a + S1x256x128.size a ≤ S2x256x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x256x128.size a ≤ S2x256x128.size a := fun v33_3_r0 k1_hw4 => k1_hw4.2.2

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  ![arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S1024x200 : Shape := ⟨2, ![1024, 200]⟩
abbrev S1000000x64 : Shape := ⟨2, ![1000000, 64]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x64 : Shape := ⟨3, ![1024, 200, 64]⟩

abbrev nBuf : Space → Nat
  | .hbm => 25
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1000000x64, .f32⟩
  | .hbm, ⟨2, _⟩ => ⟨S_, .i32⟩
  | .hbm, ⟨3, _⟩ => ⟨S1024x200, .i32⟩
  | .hbm, ⟨4, _⟩ => ⟨S1024x200, .i1⟩
  | .hbm, ⟨5, _⟩ => ⟨S_, .i32⟩
  | .hbm, ⟨6, _⟩ => ⟨S1024x200, .i32⟩
  | .hbm, ⟨7, _⟩ => ⟨S1024x200, .i32⟩
  | .hbm, ⟨8, _⟩ => ⟨S1024x200, .i32⟩
  | .hbm, ⟨9, _⟩ => ⟨S1024x200x1, .i32⟩
  | .hbm, ⟨10, _⟩ => ⟨S1, .i32⟩
  | .hbm, ⟨11, _⟩ => ⟨S_, .i32⟩
  | .hbm, ⟨12, _⟩ => ⟨S1024x200x1, .i32⟩
  | .hbm, ⟨13, _⟩ => ⟨S1024x200x1, .i1⟩
  | .hbm, ⟨14, _⟩ => ⟨S1x1x1, .i32⟩
  | .hbm, ⟨15, _⟩ => ⟨S1024x200x1, .i32⟩
  | .hbm, ⟨16, _⟩ => ⟨S1024x200x1, .i1⟩
  | .hbm, ⟨17, _⟩ => ⟨S1024x200x1, .i1⟩
  | .hbm, ⟨18, _⟩ => ⟨S_, .i1⟩
  | .hbm, ⟨19, _⟩ => ⟨S1024x200, .i1⟩
  | .hbm, ⟨20, _⟩ => ⟨S1024x200x64, .f32⟩
  | .hbm, ⟨21, _⟩ => ⟨S1024x200x64, .i1⟩
  | .hbm, ⟨22, _⟩ => ⟨S_, .f32⟩
  | .hbm, ⟨23, _⟩ => ⟨S1024x200x64, .f32⟩
  | .hbm, ⟨24, _⟩ => ⟨S1024x200x64, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  What every module of this proof names: the launch as the library's theorem sees it, the ghost state it is run over,
  the shares the tiles read by, and the windows, ring slots and semaphores of the gather's software pipeline under
  one canonical spelling each.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Ring
public import Idealize.ShloMosaic.Lib.Affine
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch and its ghost state -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call's handshakes run over the rounds library's cells, the two grid pipelines over a second copy of it, and
    the transfers over the counters. -/
abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

theorem nSub_zero : (K (F := F)).nSub 0 = 16 := rfl
theorem nCore_zero : (K (F := F)).nCore 0 = 2 := rfl

/-- The launch's own semaphores are apart and nothing of the tiles' storage is shared between them. -/
theorem facts : (K (F := F)).Facts where
  start_ne_taskDone := by show sc_start ≠ sc_taskDone; decide
  start_unscoped := by show (SemLoc.reg sc_start : SemLoc sig).isScoped .scScalar = false; decide
  taskDone_unscoped := by show (SemLoc.reg sc_taskDone : SemLoc sig).isScoped .scScalar = false; decide
  go_unscoped := by show (SemLoc.reg sc_go : SemLoc sig).isScoped .scVector = false; decide
  done_unscoped := by show (SemLoc.reg sc_done : SemLoc sig).isScoped .tc = false; decide
  noTaskShared := by show ∀ (b : DevRef τ sig) (c : Fin τ.nSC), b.owner = .sc c → sig.taskShared b.table b.idx = false; decide
  noSeq := fun _ => rfl

/-! ## The windows and the ring's slots

The gather's grid is 800 windows of 256 indices; task `(c, s)` runs windows `25 (16 c + s) + t` for `t < 25`. -/

/-- The grid's coordinates from their numbers. -/
def coordsV (c : Fin (grid1.bound 0)) (s : Fin (grid1.bound 1)) : grid1.Coords :=
  fun | 0 => c | 1 => s | ⟨_ + 2, h⟩ => absurd h (Nat.not_lt.2 (Nat.le_add_left _ _))

theorem coordsV_eta (i : grid1.Coords) : coordsV (i 0) (i 1) = i := by
  funext a
  match a with
  | 0 => rfl
  | 1 => rfl

/-- The task's number among the 32. -/
abbrev wid (i : grid1.Coords) : Nat := (i 1).val + 16 * (i 0).val
theorem wid_lt (i : grid1.Coords) : wid i < 32 := by
  have h0 : (i 0).val < 2 := (i 0).isLt
  have h1 : (i 1).val < 16 := (i 1).isLt
  unfold wid; omega
/-- Window `t` of the task's 25. -/
def wn (i : grid1.Coords) (t : Fin 25) : Fin 800 := ⟨25 * wid i + t.val, by have := wid_lt i; have := t.isLt; omega⟩

abbrev srcM : Memref sig .scVector .hbm S503808x128 .f32 := Memref.whole main_v1_scv
abbrev idxM : Memref sig .scVector .hbm S204800 .i32 := Memref.whole main_v10_scv
abbrev dstM : Memref sig .scVector .hbm S204800x128 .f32 := Memref.whole main_v11_scv
abbrev ringI : Memref sig .scVector .vmem S512 .i32 := Memref.whole cc1_scoped0
abbrev ringO : Memref sig .scVector .vmem S2x256x128 .f32 := Memref.whole cc1_scoped2

theorem ixW_inb (w : Fin 800) : ∀ a, (![256 * w.val] : Fin 1 → Nat) a + S256.size a ≤ S204800.size a := by
  have := w.isLt; intro a; fin_cases a; show 256 * w.val + 256 ≤ 204800; omega
theorem ixS_inb (s : Fin 2) : ∀ a, (![256 * s.val] : Fin 1 → Nat) a + S256.size a ≤ S512.size a := by
  have := s.isLt; intro a; fin_cases a; show 256 * s.val + 256 ≤ 512; omega
theorem outW_inb (w : Fin 800) : ∀ a, (![256 * w.val, 0] : Fin 2 → Nat) a + S256x128.size a ≤ S204800x128.size a := by
  have := w.isLt; intro a; fin_cases a
  · show 256 * w.val + 256 ≤ 204800; omega
  · show 0 + 128 ≤ 128; omega
theorem outS_inb (s : Fin 2) : ∀ a, (![s.val, 0, 0] : Fin 3 → Nat) a + S1x256x128.size a ≤ S2x256x128.size a := by
  have := s.isLt; intro a; fin_cases a
  · show s.val + 1 ≤ 2; omega
  · show 0 + 256 ≤ 256; omega
  · show 0 + 128 ≤ 128; omega
theorem sem_inb (s : Fin 2) : ∀ a, (![s.val] : Fin 1 → Nat) a + S1.size a ≤ S2.size a := by
  have := s.isLt; intro a; fin_cases a; show s.val + 1 ≤ 2; omega

/-- Window `w` of the index list, in HBM; -/
def ixW (w : Fin 800) : Memref sig .scVector .hbm S256 .i32 :=
  idxM.slice (Rect.unit (s := S204800) ![256 * w.val] S256.size (ixW_inb w)) (fun _ => rfl)
/-- slot `s` of the index ring; -/
def ixS (s : Fin 2) : Memref sig .scVector .vmem S256 .i32 :=
  ringI.slice (Rect.unit (s := S512) ![256 * s.val] S256.size (ixS_inb s)) (fun _ => rfl)
/-- its semaphore; -/
def ixSem (s : Fin 2) : DmaSems sig S_ := (cc1_scoped1.slice (Rect.unit (s := S2) ![s.val] S1.size (sem_inb s))).squeeze S_ squeezes_S1_S_
/-- window `w` of the gathered rows, in HBM; -/
def outW (w : Fin 800) : Memref sig .scVector .hbm S256x128 .f32 :=
  dstM.slice (Rect.unit (s := S204800x128) ![256 * w.val, 0] S256x128.size (outW_inb w)) (fun _ => rfl)
/-- slot `s` of the row ring; -/
def outS (s : Fin 2) : Memref sig .scVector .vmem S256x128 .f32 :=
  (ringO.slice (Rect.unit (s := S2x256x128) ![s.val, 0, 0] S1x256x128.size (outS_inb s)) (fun _ => rfl)).squeeze S256x128 squeezes_S1x256x128_S256x128
/-- its semaphore; -/
def outSem (s : Fin 2) : DmaSems sig S_ := (cc1_scoped3.slice (Rect.unit (s := S2) ![s.val] S1.size (sem_inb s))).squeeze S_ squeezes_S1_S_
/-- and the packed table the gather reads. -/
abbrev srcAll : Memref sig .scVector .hbm S503808x128 .f32 :=
  srcM.slice (Rect.unit (s := S503808x128) ![0, 0] S503808x128.size inb_S503808x128_S503808x128_0_0) (fun _ => rfl)

theorem ixW_of {off : Fin 1 → Nat} {w : Fin 800} (e : off = ![256 * w.val]) (h hs) :
    idxM.slice (Rect.unit (s := S204800) off S256.size h) hs = ixW w := Memref.slice_unit_congr _ e _ _ _ (fun _ => rfl)
theorem ixS_of {off : Fin 1 → Nat} {s : Fin 2} (e : off = ![256 * s.val]) (h hs) :
    ringI.slice (Rect.unit (s := S512) off S256.size h) hs = ixS s := Memref.slice_unit_congr _ e _ _ _ (fun _ => rfl)
theorem ixSem_of {off : Fin 1 → Nat} {s : Fin 2} (e : off = ![s.val]) (h) :
    (cc1_scoped1.slice (Rect.unit (s := S2) off S1.size h)).squeeze S_ squeezes_S1_S_ = ixSem s :=
  congrArg (fun A : DmaSems sig S1 => A.squeeze S_ squeezes_S1_S_) (SemArray.slice_unit_congr _ e _ _)
theorem outW_of {off : Fin 2 → Nat} {w : Fin 800} (e : off = ![256 * w.val, 0]) (h hs) :
    dstM.slice (Rect.unit (s := S204800x128) off S256x128.size h) hs = outW w := Memref.slice_unit_congr _ e _ _ _ (fun _ => rfl)
theorem outS_of {off : Fin 3 → Nat} {s : Fin 2} (e : off = ![s.val, 0, 0]) (h hs) :
    (ringO.slice (Rect.unit (s := S2x256x128) off S1x256x128.size h) hs).squeeze S256x128 squeezes_S1x256x128_S256x128 = outS s :=
  congrArg (fun M : Memref sig .scVector .vmem S1x256x128 .f32 => M.squeeze S256x128 squeezes_S1x256x128_S256x128) (Memref.slice_unit_congr _ e _ _ _ (fun _ => rfl))
theorem outSem_of {off : Fin 1 → Nat} {s : Fin 2} (e : off = ![s.val]) (h) :
    (cc1_scoped3.slice (Rect.unit (s := S2) off S1.size h)).squeeze S_ squeezes_S1_S_ = outSem s :=
  congrArg (fun A : DmaSems sig S1 => A.squeeze S_ squeezes_S1_S_) (SemArray.slice_unit_congr _ e _ _)

/-! ## Halved shares -/

/-- Part `i` of the `2 ^ n` parts of a share: halved `n` times, the first half's parts before the second's. -/
def part : (n : ℕ) → PosShare TreeShare → ℕ → PosShare TreeShare
  | 0, q, _ => q
  | n + 1, q, i => if i < 2 ^ n then part n q.left i else part n q.right (i - 2 ^ n)

theorem pointsTo_parts {ℓ : Loc nD τ sig} (I : Finset (Idx ℓ)) (f : Buf (Elt F) ℓ) (n : ℕ) :
    ∀ q : PosShare TreeShare, (ℓ ↦[I]{q} f : sProp 𝕄) ⊢ bigSep (Finset.range (2 ^ n)) fun i => ℓ ↦[I]{part n q i} f := by
  induction n with
  | zero => intro q; rw [show Finset.range (2 ^ 0) = {0} from rfl, bigSep_singleton]; exact .rfl
  | succ n ih =>
    intro q
    have hd : Disjoint (Finset.range (2 ^ n)) ((Finset.range (2 ^ n)).map (addLeftEmbedding (2 ^ n))) := by
      rw [Finset.disjoint_left]; intro a ha hb
      obtain ⟨b, -, rfl⟩ := Finset.mem_map.mp hb
      have := Finset.mem_range.mp ha; simp at this
    have hr : Finset.range (2 ^ (n + 1)) = Finset.range (2 ^ n) ∪ (Finset.range (2 ^ n)).map (addLeftEmbedding (2 ^ n)) := by
      rw [show 2 ^ (n + 1) = 2 ^ n + 2 ^ n by omega, Finset.range_add]
    rw [hr, bigSep_union hd, bigSep_map]
    refine (pointsTo_share (PosShare.mem_left_op_right q)).1.trans (BIClass.sep_mono ((ih q.left).trans (Entails.of_eq (bigSep_congr fun i hi => ?_))) ((ih q.right).trans (Entails.of_eq (bigSep_congr fun i hi => ?_))))
    · rw [part, if_pos (Finset.mem_range.mp hi)]
    · rw [part, if_neg (by simp), show addLeftEmbedding (2 ^ n) i - 2 ^ n = i by simp]

end Cert.Proof.Emb

end
-- ==== Proof.Arith.lean ====
/-
  The integer chains of the gather's pipeline, evaluated: which trips start and await which copies, which ring slot and
  which window each copy names, and that the body's checks hold at the words a trip carries.
-/
module

public import proofs.«01_k».proof.Proof.Setup

@[expose] public section

noncomputable section

namespace Cert.Proof.Emb

open Cert.KernelIdeal Cert.KernelIdeal.Gen
open Idealize.ShloMosaic

/-! The five words carried before trip `t`: the copies in started, the copies in awaited and the copies out started
(both `t`), the copies out awaited, and the step, which wraps at 25. -/

abbrev A6 (t : Nat) : BitVec 32 := BitVec.ofNat 32 (min (t + 1) 25)
abbrev A7 (t : Nat) : BitVec 32 := BitVec.ofNat 32 t
abbrev A9 (t : Nat) : BitVec 32 := BitVec.ofNat 32 (t - 1)
abbrev A10 (t : Nat) : BitVec 32 := BitVec.ofNat 32 (t % 25)

theorem trips_eq : k1_t1_loop.trips = 25 := by decide

/-- Trip `t` of the loop. -/
abbrev tr (t : Fin 25) : Fin k1_t1_loop.trips := Fin.cast trips_eq.symm t

abbrev b01 (b : Bool) : BitVec 1 := if b then 1#1 else 0#1

/-- The ring slot of trip `t`. -/
abbrev sl2 (t : Nat) : Fin 2 := ⟨t % 2, Nat.mod_lt _ (by decide)⟩

theorem conds (c : Fin 2) (s : Fin 16) : ∀ t : Fin 25,
    k1_cond1 (coordsV c s) (tr t) (A10 t) = b01 (decide (t.val < 24)) ∧ k1_cond2 (coordsV c s) (tr t) (A10 t) = 1#1
      ∧ k1_cond5 (coordsV c s) (tr t) (A10 t) = 1#1 ∧ k1_cond7 (coordsV c s) (tr t) (A10 t) = b01 (decide (0 < t.val)) := by
  revert c s; decide +kernel

/-! The ring offsets: slot `t % 2` for the copy in awaited, the gather and the copy out; the next slot for the copy in
started; the previous for the copy out awaited. -/

theorem slots : ∀ t : Fin 25,
    (k1_off4 (A6 t) = ![256 * ((t.val + 1) % 2)] ∨ t.val = 24) ∧ (k1_off6 (A6 t) = ![(t.val + 1) % 2] ∨ t.val = 24)
      ∧ k1_off7 (A7 t) = ![256 * (t.val % 2)] ∧ k1_off9 (A7 t) = ![t.val % 2]
      ∧ k1_off10 (A7 t) = ![t.val % 2, 0, 0] ∧ k1_off11 (A7 t) = ![256 * (t.val % 2)]
      ∧ k1_off12 (A7 t) = ![t.val % 2, 0, 0] ∧ k1_off14 (A7 t) = ![t.val % 2]
      ∧ k1_off15 (A9 t) = ![(t.val - 1) % 2, 0, 0] ∧ k1_off17 (A9 t) = ![(t.val - 1) % 2] := by
  decide +kernel

/-! The windows: `t` awaited and written, `t + 1` started, `t - 1` awaited on its way out. -/

theorem wins (c : Fin 2) (s : Fin 16) : ∀ t : Fin 25,
    (k1_off5 (coordsV c s) (A10 t) = ![256 * (25 * (s.val + 16 * c.val) + (t.val + 1))] ∨ t.val = 24)
      ∧ k1_off8 (coordsV c s) (A10 t) = ![256 * (25 * (s.val + 16 * c.val) + t.val)]
      ∧ k1_off13 (coordsV c s) (A10 t) = ![256 * (25 * (s.val + 16 * c.val) + t.val), 0]
      ∧ (k1_off16 (coordsV c s) (A10 t) = ![256 * (25 * (s.val + 16 * c.val) + (t.val - 1)), 0] ∨ t.val = 0) := by
  revert c s; decide +kernel

theorem ends (c : Fin 2) (s : Fin 16) :
    k1_off1 = ![0] ∧ k1_off3 = ![0] ∧ k1_off2 (coordsV c s) = ![256 * (25 * (s.val + 16 * c.val))]
      ∧ k1_off19 (coordsV c s) (A10 25) = ![256 * (25 * (s.val + 16 * c.val) + 24), 0] ∧ k1_off20 (A9 25) = ![0]
      ∧ k1_off21 (A9 25) = ![0, 0, 0] := by
  revert c s; decide +kernel

/-! The checks of the body. -/

theorem chks (c : Fin 2) (s : Fin 16) : ∀ t : Fin 25,
    k1_chk1 (coordsV c s) (tr t) (A6 t) (A7 t) (A7 t) (A9 t) (A10 t) ∧ k1_chk2 (A7 t) ∧ k1_chk3 (A7 t) := by
  revert c s; decide +kernel
theorem chks_end (c : Fin 2) (s : Fin 16) : k1_chk5 (coordsV c s) (A10 25) ∧ k1_chk4 (A9 25) :=
  ⟨by unfold k1_chk5; revert c s; decide +kernel, by unfold k1_chk4; decide +kernel⟩

/-- The five words a trip carries: the windows fetched, read, filled and drained, and the window's number. -/
abbrev words (t : ℕ) : BitVec 32 × BitVec 32 × BitVec 32 × BitVec 32 × BitVec 32 := (A6 t, A7 t, A7 t, A9 t, A10 t)

/-- A task's first window, as the program computes it. -/
abbrev V4 (i : grid1.Coords) : BitVec 32 :=
  Scalar.muli (Scalar.addi (Scalar.addi 0#32 (Scalar.muli (BitVec.ofNat 32 (i 1).val) 1#32)) (Scalar.muli (BitVec.ofNat 32 (i 0).val) 16#32)) 25#32

/-- The words a trip hands on, from what its first part computes. -/
def nextWords (a7 a8 a9 a10 : BitVec 32) (v64 v65 : BitVec 1) (v66 v71 v76 v91 : BitVec 32) :
    BitVec 32 × BitVec 32 × BitVec 32 × BitVec 32 × BitVec 32 :=
  (v91, Scalar.select (Scalar.ori (Scalar.cmpi .ne v66 v76) v65) (Scalar.addi a7 1#32) a7,
    Scalar.select (Scalar.andi (Scalar.ori (Scalar.cmpi .ne v66 v76) v65) 1#1) (Scalar.addi a8 1#32) a8,
    Scalar.select (Scalar.andi (Scalar.andi (Scalar.cmpi .ne v66 v71) (Scalar.xori v64 1#1)) 1#1) (Scalar.addi a9 1#32) a9,
    Scalar.select (Scalar.cmpi .eq (Scalar.select 1#1 (Scalar.addi a10 1#32) a10) 25#32) 0#32 (Scalar.select 1#1 (Scalar.addi a10 1#32) a10))

abbrev pv (i : grid1.Coords) (a : BitVec 32) : BitVec 32 :=
  Scalar.addi (Scalar.select (Scalar.cmpi .eq (Scalar.select 1#1 (Scalar.subi a 1#32) a) 4294967295#32) 24#32 (Scalar.select 1#1 (Scalar.subi a 1#32) a)) (V4 i)

abbrev nx (i : grid1.Coords) (a : BitVec 32) : BitVec 32 :=
  Scalar.addi (Scalar.select (Scalar.cmpi .eq (Scalar.select 1#1 (Scalar.addi a 1#32) a) 25#32) 0#32 (Scalar.select 1#1 (Scalar.addi a 1#32) a)) (V4 i)

theorem next_eq (c : Fin 2) (s : Fin 16) : ∀ t : Fin 25,
    nextWords (A7 t) (A7 t) (A9 t) (A10 t) (Scalar.cmpi .eq (Scf.iv 0#32 1#32 (tr t)) 0#32) (Scalar.cmpi .eq (Scf.iv 0#32 1#32 (tr t)) 24#32)
      (Scalar.addi (A10 t) (V4 (coordsV c s))) (pv (coordsV c s) (A10 t)) (nx (coordsV c s) (A10 t))
      (Scalar.select (Scalar.andi (Scalar.andi (Scalar.cmpi .ne (Scalar.addi (A10 t) (V4 (coordsV c s))) (nx (coordsV c s) (A10 t)))
        (Scalar.xori (Scalar.cmpi .sge (Scf.iv 0#32 1#32 (tr t)) 24#32) 1#1)) 1#1) (Scalar.addi (A6 t) 1#32) (A6 t))
      = words (t.val + 1) := by
  revert c s; decide +kernel

end Cert.Proof.Emb

end
-- ==== Proof.Ops.lean ====
/-
  The states of the gather's two rings and the five operations that move between them: start and await a copy of an
  index window into a ring slot, gather the rows the slot's indices name, start and await the copy of those rows out.
-/
module

public import proofs.«01_k».proof.Proof.Arith

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The gathered rows -/

/-- The index of a rank-two array from its two coordinates. -/
def at2 {d : Fin 2 → Nat} (r : Fin (d 0)) (c : Fin (d 1)) : (⟨2, d⟩ : Shape).Idx := fun a => match a with
  | ⟨0, _⟩ => r
  | ⟨1, _⟩ => c
/-- and of a rank-one array. -/
def at1 {d : Fin 1 → Nat} (r : Fin (d 0)) : (⟨1, d⟩ : Shape).Idx := fun a => match a with | ⟨0, _⟩ => r

theorem ext2 {d : Fin 2 → Nat} {i j : (⟨2, d⟩ : Shape).Idx} (h0 : (i 0).val = (j 0).val) (h1 : (i 1).val = (j 1).val) : i = j := by
  funext a
  match a with
  | ⟨0, _⟩ => exact Fin.ext h0
  | ⟨1, _⟩ => exact Fin.ext h1
theorem ext1 {d : Fin 1 → Nat} {i j : (⟨1, d⟩ : Shape).Idx} (h0 : (i 0).val = (j 0).val) : i = j := by
  funext a
  match a with
  | ⟨0, _⟩ => exact Fin.ext h0

/-- Every word of the index list names a row of the packed table. -/
def InRows (ix : S204800.Idx → BitVec 32) : Prop := ∀ j, (ix j).toNat < 503808

/-- Row `j` of the result is the row of the packed table that word `j` of the index list names. -/
def gath (g1 : S503808x128.Idx → F .f32) (ix : S204800.Idx → BitVec 32) (h : InRows ix) : S204800x128.Idx → F .f32 :=
  fun j => g1 (at2 (d := ![503808, 128]) ⟨(ix (at1 (d := ![204800]) (j 0))).toNat, h _⟩ (j 1))

theorem rowMajor_symm_256 (k : Fin S256.numel) : S256.rowMajor.symm k = at1 (d := ![256]) ⟨k.val, k.isLt.trans_le (by decide)⟩ := by
  rw [Equiv.symm_apply_eq]; apply Fin.ext
  exact ((Shape.rowMajor_val_one (d := ![256]) (at1 (d := ![256]) ⟨k.val, k.isLt.trans_le (by decide)⟩)).trans rfl).symm

/-- What the stream delivers into a slot whose words are window `w` of the list: window `w` of the gathered rows. -/
theorem payload_eq (g1 : S503808x128.Idx → F .f32) (ix : S204800.Idx → BitVec 32) (h : InRows ix) (w : Fin 800)
    (I : S256.Idx → BitVec 32) (hI : I = (ixW w).view.read (Elt F) ix)
    (hin : ∀ x, (I x).toNat < S503808x128.size gathers_S503808x128_S256x128.axis) :
    SparseCore.gatherPayload (F := F) (e := .f32) gathers_S503808x128_S256x128 (srcAll.view.read (Elt F) g1)
        (SparseCore.rows (F := F) I (si := S256) rfl hin)
      = (outW w).view.read (Elt F) (gath g1 ix h) := by
  subst hI
  funext x
  show g1 _ = g1 _
  congr 1
  apply ext2 (d := ![503808, 128])
  · show (0 + 1 * (gathers_S503808x128_S256x128.idx _ x gathers_S503808x128_S256x128.axis).val) = _
    rw [Shape.Gathers.idx_axis]
    show 0 + 1 * (ix _).toNat = (ix _).toNat
    rw [Nat.zero_add, Nat.one_mul]
    congr 2
    apply ext1 (d := ![204800])
    show 256 * w.val + 1 * (S256.rowMajor.symm _ 0).val = 256 * w.val + 1 * (x 0).val
    rw [rowMajor_symm_256]; rfl
  · show (0 + 1 * (gathers_S503808x128_S256x128.idx _ x 1).val) = 0 + 1 * (x 1).val
    rw [Shape.Gathers.idx_of_ne _ _ _ 1 (by decide)]; rfl

/-- Writing through a view what it reads off `g` is `g` on the view's elements. -/
theorem pts_write_read {ℓthr : Thread nD τ} {sp : Space} {s : Shape} {e : EltTy} (v : View sig ℓthr.2.kind sp s e) (q : PosShare TreeShare)
    (f g : Buf (Elt F) (v.loc ℓthr)) :
    (v.loc ℓthr ↦[v.set]{q} v.write (Elt F) f (v.read (Elt F) g) Finset.univ : sProp 𝕄) = (v.loc ℓthr ↦[v.set]{q} g) := by
  refine pointsTo_congr fun i hi => ?_
  rw [View.write_read_eq_piecewise]
  exact Finset.piecewise_eq_of_mem _ _ _ (by rw [View.setOn_univ]; exact hi)

/-! ## The rings' states -/

section Tile

variable [FloatOps F]
variable (d : Dev nD) (L : grid1.Coords)
variable (g1 : S503808x128.Idx → F .f32) (ix : S204800.Idx → BitVec 32) (h : InRows ix) (q1 q10 : PosShare TreeShare)

abbrev cV (L : grid1.Coords) : Fin τ.nSC := (L 0).castLE hcore1
abbrev jV (L : grid1.Coords) : Fin τ.nSub := (L 1).castLE hsub1
/-- The task's thread. -/
abbrev vt (d : Dev nD) (L : grid1.Coords) : Thread nD τ := V d (cV L) (jV L)

/-- The share of the index list that slot `s`'s copies read by. -/
def hs (s : Fin 2) : PosShare TreeShare := if s = 0 then q10.left else q10.right

/-- The list's share of slot `s`, whole; and but window `w`. -/
def ixPts (s : Fin 2) : sProp 𝕄 := idxM.view.loc (vt d L) ↦{hs q10 s} ix
def ixBut (s : Fin 2) (w : Fin 800) : sProp 𝕄 := idxM.view.loc (vt d L) ↦[Finset.univ \ (ixW w).view.set]{hs q10 s} ix

/-- Slot `s` holds some words; -/
def ixAny (s : Fin 2) : sProp 𝕄 := iprop(∃ f, (ixS s).view.loc (vt d L) ↦[(ixS s).view.set]{fullShare} f)
/-- it holds window `w`. -/
def ixVal (s : Fin 2) (w : Fin 800) : sProp 𝕄 :=
  iprop(∃ f, ⌜(ixS s).view.read (Elt F) f = (ixW w).view.read (Elt F) ix⌝ ∗ (ixS s).view.loc (vt d L) ↦[(ixS s).view.set]{fullShare} f)

/-- Slot `s` of the index ring at rest; -/
def inIdle (s : Fin 2) : sProp 𝕄 := iprop(ixAny (F := F) d L s ∗ semVal (vt d L, .dma (ixSem s).sem) 0 ∗ ixPts (F := F) d L ix q10 s)
/-- window `w` on its way into it; -/
def inFl (s : Fin 2) (w : Fin 800) : sProp 𝕄 :=
  iprop(Transfers.Flight countersEmb (vt d L) (.dma (ixSem s).sem) (default : HIx 1) ((ixS s).view.dmaCredit)
      iprop(ixVal (F := F) d L ix s w ∗ ((ixW w).view.loc (vt d L) ↦[(ixW w).view.set]{hs q10 s} ix))
    ∗ ixBut (F := F) d L ix q10 s w)
/-- window `w` in it. -/
def inHas (s : Fin 2) (w : Fin 800) : sProp 𝕄 :=
  iprop(ixVal (F := F) d L ix s w ∗ semVal (vt d L, .dma (ixSem s).sem) 0 ∗ ixPts (F := F) d L ix q10 s)

/-- Slot `s` of the row ring holds some rows; -/
def outAny (s : Fin 2) : sProp 𝕄 := iprop(∃ f, (outS s).view.loc (vt d L) ↦[(outS s).view.set]{fullShare} f)
/-- it holds window `w` of the gathered rows. -/
def outVal (s : Fin 2) (w : Fin 800) : sProp 𝕄 :=
  iprop(∃ f, ⌜(outS s).view.read (Elt F) f = (outW w).view.read (Elt F) (gath g1 ix h)⌝ ∗ (outS s).view.loc (vt d L) ↦[(outS s).view.set]{fullShare} f)

/-- Window `w` of the result at some contents; -/
def winAny (w : Fin 800) : sProp 𝕄 := iprop(∃ f, (outW w).view.loc (vt d L) ↦[(outW w).view.set]{fullShare} f)
/-- at the gathered rows. -/
def winDone (w : Fin 800) : sProp 𝕄 := (outW w).view.loc (vt d L) ↦[(outW w).view.set]{fullShare} (gath g1 ix h)

def outIdle (s : Fin 2) : sProp 𝕄 := iprop(outAny (F := F) d L s ∗ semVal (vt d L, .dma (outSem s).sem) 0)
def outHas (s : Fin 2) (w : Fin 800) : sProp 𝕄 := iprop(outVal (F := F) d L g1 ix h s w ∗ semVal (vt d L, .dma (outSem s).sem) 0)
def outFl (s : Fin 2) (w : Fin 800) : sProp 𝕄 :=
  Transfers.Flight countersEmb (vt d L) (.dma (outSem s).sem) (default : HIx 1) ((outW w).view.dmaCredit)
    iprop(winDone (F := F) d L g1 ix h w ∗ outAny (F := F) d L s)

/-- What the gather itself uses: the task's share of the packed table and its semaphore at zero. -/
def gSt : sProp 𝕄 := iprop(((srcM).view.loc (vt d L) ↦{q1} g1) ∗ semVal (vt d L, .dma cc1_scoped4.sem) 0)

/-- What the task owes, its waits recorded at this call's index only. -/
def ow (O : CellTallies nD τ sig (HIx 1)) (W : Waits sig (HIx 1)) : sProp 𝕄 :=
  iprop(∃ W', ⌜∀ p ∈ W', p ∈ W ∨ p.2 = none⌝ ∗ owes (vt d L) O W')

variable {d L ix q10}

theorem inHas_idle (s : Fin 2) (w : Fin 800) : inHas (F := F) d L ix q10 s w ⊢ inIdle (F := F) d L ix q10 s := by
  unfold inHas inIdle ixVal ixAny
  iintro ⟨⟨%f, -, H⟩, HR⟩
  isplitl [H]
  · iexists f; iexact H
  · iexact HR

/-! ## The operations -/

omit [FloatOps F] in
/-- A slot's rows' credits sum to the slot's. -/
theorem credit_rows : ∀ s : Fin 2, ∑ j, ((outS s).slice (S256x128.rowRect gathers_S503808x128_S256x128.axis' j) (S256x128.stride_rowRect _ j)).view.dmaCredit
      = (outS s).view.dmaCredit := by decide

section Ops

theorem start_in {Q : PUnit → sProp 𝕄} {s : Fin 2} {w : Fin 800} {src : Memref sig .scVector .hbm S256 .i32} {dst : Memref sig .scVector .vmem S256 .i32} {sem : DmaSem sig}
    (h1 : src = ixW w) (h2 : dst = ixS s) (h3 : sem = (ixSem s).sem) {a b c} :
    inIdle (F := F) d L ix q10 s
      ⊢ iprop((inFl (F := F) d L ix q10 s w -∗ Q ⟨⟩)
          -∗ wp frame (wpE (defs₀ (F := F)) 𝒱₀ (vt d L) none) Set.univ (Prog.lift (.enqueueDma src (.here dst) (.dma sem) a b c)) Q) := by
  subst h1 h2 h3
  unfold inIdle ixAny ixPts inFl
  iintro ⟨⟨%f, Hd⟩, Hv, Hx⟩ Hk
  ihave Hxs := (pointsTo_split_subset (Finset.subset_univ (ixW w).view.set)).1 $$ Hx
  icases Hxs with ⟨Hxs, Hxr⟩
  iapply (Transfers.wp_dmaLocal (defs := defs₀ (F := F)) countersEmb 𝒱₀ (vt d L) none (src := ixW w) (dst := ixS s) (q := hs q10 s) (fs := ix) (fd := f) (default : HIx 1)
    (ixS s).view.dmaCredit rfl (View.dmaCredit_pos _ (by decide)) subset_rfl) $$ [Hd Hv Hxs]
  · isplitl [Hxs]; · iexact Hxs
    isplitl [Hd]; · iexact Hd
    iexact Hv
  iintro Hf
  rw [wp_ret]; imodintro
  iapply Hk
  isplitl [Hf]
  · iapply (Transfers.Flight_mono (D' := iprop(ixVal (F := F) d L ix s w ∗ ((ixW w).view.loc (vt d L) ↦[(ixW w).view.set]{hs q10 s} ix))) ?_) $$ Hf
    unfold ixVal
    iintro ⟨Hd, Hs⟩
    isplitl [Hd]
    · iexists _
      isplitr
      swap; · iexact Hd
      ipureintro; exact View.read_write_univ _ _
    · iexact Hs
  · unfold ixBut; iexact Hxr

theorem wait_in {Q : PUnit → sProp 𝕄} {s : Fin 2} {w : Fin 800} {src : Memref sig .scVector .hbm S256 .i32} {dst : Memref sig .scVector .vmem S256 .i32} {sem : DmaSem sig}
    {O : CellTallies nD τ sig (HIx 1)} {W : Waits sig (HIx 1)}
    (h1 : src = ixW w) (h2 : dst = ixS s) (h3 : sem = (ixSem s).sem) {a b} :
    iprop(inFl (F := F) d L ix q10 s w ∗ ow (F := F) d L O W ∗ Transfers.MayWaits (vt d L) (default : HIx 1) O)
      ⊢ iprop((inHas (F := F) d L ix q10 s w ∗ ow (F := F) d L O W -∗ Q ⟨⟩)
          -∗ wp frame (wpE (defs₀ (F := F)) 𝒱₀ (vt d L) none) Set.univ (Prog.lift (.waitDma2 sem src dst a b)) Q) := by
  subst h1 h2 h3
  unfold inFl ow
  iintro ⟨⟨Hf, Hb⟩, ⟨%W', %hW, HO⟩, Hmw⟩ Hk
  iapply (Transfers.wp_waitLocalO (defs := defs₀ (F := F)) countersEmb 𝒱₀ (vt d L) none (default : HIx 1) (dstw := ixS s) rfl) $$ [Hf HO Hmw]
  · isplitl [Hf]; · iexact Hf
    isplitl [HO]; · iexact HO
    iapply (Transfers.MayWaits.elim (.dma (ixSem s).sem)) $$ Hmw
  iintro ⟨⟨Hv, Hx⟩, Hsem, HO⟩
  rw [wp_ret]; imodintro
  iapply Hk
  isplitl [Hv Hx Hsem Hb]
  · unfold inHas ixPts
    isplitl [Hv]; · iexact Hv
    isplitl [Hsem]; · iexact Hsem
    iapply (pointsTo_split_subset (Finset.subset_univ (ixW w).view.set)).2
    isplitl [Hx]; · iexact Hx
    unfold ixBut; iexact Hb
  · iexists _
    isplitr
    swap; · iexact HO
    ipureintro
    intro p hp
    rcases Finset.mem_insert.mp hp with rfl | hp
    · exact .inr rfl
    · exact hW p hp

theorem gather_rows {Q : PUnit → sProp 𝕄} {s s' : Fin 2} {w : Fin 800} {dst : Memref sig .scVector .vmem S256x128 .f32} {offs : Memref sig .scVector .vmem S256 .i32}
    {dst' : Memref sig .scVector .vmem S256x128 .f32}
    {O : CellTallies nD τ sig (HIx 1)} {W : Waits sig (HIx 1)}
    (h1 : dst = outS s') (h2 : offs = ixS s) (h3 : dst' = outS s') {a b c e f g} {hr} :
    iprop(inHas (F := F) d L ix q10 s w ∗ outIdle (F := F) d L s' ∗ gSt (F := F) d L g1 q1 ∗ ow (F := F) d L O W ∗ Transfers.MayWaits (vt d L) (default : HIx 1) O)
      ⊢ iprop((inHas (F := F) d L ix q10 s w ∗ outHas (F := F) d L g1 ix h s' w ∗ gSt (F := F) d L g1 q1 ∗ ow (F := F) d L O W
            -∗ Q ⟨⟩)
          -∗ wp frame (wpE (defs₀ (F := F)) 𝒱₀ (vt d L) none) Set.univ
              (SparseCore.enqueueIndirectGather (F := F) a srcAll dst gathers_S503808x128_S256x128 offs rfl cc1_scoped4.sem b c e hr
                >>= fun _ => SparseCore.waitIndirectGather cc1_scoped4.sem srcAll dst' f g) Q) := by
  subst h1 h2 h3
  unfold inHas outIdle ixVal outAny gSt ow
  iintro ⟨⟨⟨%fi, %hfi, Hi⟩, HiR⟩, ⟨⟨%fo, Ho⟩, HoR⟩, ⟨Hx, Hv⟩, ⟨%W', %hW, HO⟩, Hmw⟩ Hk
  have hin : ∀ x, ((ixS s).view.read (Elt F) fi x).toNat < S503808x128.size gathers_S503808x128_S256x128.axis := by
    rw [hfi]; intro x; exact h _
  have hN := credit_rows s'
  ihave Hxs := (pointsTo_split_subset (Finset.subset_univ srcAll.view.set)).1 $$ Hx
  icases Hxs with ⟨Hxs, Hxr⟩
  iapply (SparseCore.wp_indirectGatherLocal (defs := defs₀ (F := F)) countersEmb 𝒱₀ (vt d L) none (src := srcAll) (dst := outS s') (offs := ixS s)
    (hg := gathers_S503808x128_S256x128) (q := q1) (qo := fullShare) (fs := g1) (fd := fo) (fo := fi) (default : HIx 1) (outS s').view.dmaCredit hN (by decide) hin) $$ [Hxs Ho Hi Hv]
  · isplitl [Hxs]; · iexact Hxs
    isplitl [Ho]; · iexact Ho
    isplitl [Hi]; · iexact Hi
    iexact Hv
  iintro Hf
  iapply (Transfers.wp_waitLocalO (defs := defs₀ (F := F)) countersEmb 𝒱₀ (vt d L) none (default : HIx 1) (dstw := outS s') rfl) $$ [Hf HO Hmw]
  · isplitl [Hf]; · iexact Hf
    isplitl [HO]; · iexact HO
    iapply (Transfers.MayWaits.elim (.dma cc1_scoped4.sem)) $$ Hmw
  iintro ⟨⟨Ho, Hxs, Hi⟩, Hv, HO⟩
  rw [wp_ret]; imodintro
  iapply Hk
  isplitl [Hi HiR]
  · isplitl [Hi]
    · iexists fi
      isplitr; · ipureintro; exact hfi
      iexact Hi
    · iexact HiR
  isplitl [Ho HoR]
  · unfold outHas outVal
    isplitl [Ho]
    · iexists _
      isplitr
      swap; · iexact Ho
      ipureintro
      rw [View.read_write_univ]
      exact payload_eq g1 ix h w _ hfi hin
    · iexact HoR
  isplitl [Hxs Hxr Hv]
  · isplitl [Hxs Hxr]
    · iapply (pointsTo_split_subset (Finset.subset_univ srcAll.view.set)).2
      isplitl [Hxs]; · iexact Hxs
      iexact Hxr
    · iexact Hv
  · iexists _
    isplitr
    swap; · iexact HO
    ipureintro
    intro p hp
    rcases Finset.mem_insert.mp hp with rfl | hp
    · exact .inr rfl
    · exact hW p hp

/-- The same gather with the rest of the program behind it. -/
theorem gather_then {α : Type} {Q : α → sProp 𝕄} {s s' : Fin 2} {w : Fin 800} {dst : Memref sig .scVector .vmem S256x128 .f32} {offs : Memref sig .scVector .vmem S256 .i32}
    {dst' : Memref sig .scVector .vmem S256x128 .f32} {O : CellTallies nD τ sig (HIx 1)} {W : Waits sig (HIx 1)}
    (h1 : dst = outS s') (h2 : offs = ixS s) (h3 : dst' = outS s') {a b c e f g} {hr}
    {k : PUnit → Prog (TpuEff nD τ sig (Elt F) Λ₀ (vt d L).2) α} :
    iprop(inHas (F := F) d L ix q10 s w ∗ outIdle (F := F) d L s' ∗ gSt (F := F) d L g1 q1 ∗ ow (F := F) d L O W ∗ Transfers.MayWaits (vt d L) (default : HIx 1) O)
      ⊢ iprop((inHas (F := F) d L ix q10 s w ∗ outHas (F := F) d L g1 ix h s' w ∗ gSt (F := F) d L g1 q1 ∗ ow (F := F) d L O W
            -∗ wp frame (wpE (defs₀ (F := F)) 𝒱₀ (vt d L) none) Set.univ (k ⟨⟩) Q)
          -∗ wp frame (wpE (defs₀ (F := F)) 𝒱₀ (vt d L) none) Set.univ
              (SparseCore.enqueueIndirectGather (F := F) a srcAll dst gathers_S503808x128_S256x128 offs rfl cc1_scoped4.sem b c e hr
                >>= fun _ => SparseCore.waitIndirectGather cc1_scoped4.sem srcAll dst' f g >>= k) Q) := by
  have := gather_rows (F := F) (d := d) (L := L) (g1 := g1) (ix := ix) (h := h) (q1 := q1) (q10 := q10) (O := O) (W := W) (s := s) (s' := s') (w := w)
    (Q := fun x => wp frame (wpE (defs₀ (F := F)) 𝒱₀ (vt d L) none) Set.univ (k x) Q) h1 h2 h3 (a := a) (b := b) (c := c) (e := e) (f := f) (g := g) (hr := hr)
  rw [wp_bind] at this
  simp only [wp_bind]
  exact this

theorem start_out {Q : PUnit → sProp 𝕄} {s : Fin 2} {w : Fin 800} {src : Memref sig .scVector .vmem S256x128 .f32} {dst : Memref sig .scVector .hbm S256x128 .f32} {sem : DmaSem sig}
    (h1 : src = outS s) (h2 : dst = outW w) (h3 : sem = (outSem s).sem) {a b c} :
    iprop(outHas (F := F) d L g1 ix h s w ∗ winAny (F := F) d L w)
      ⊢ iprop((outFl (F := F) d L g1 ix h s w -∗ Q ⟨⟩)
          -∗ wp frame (wpE (defs₀ (F := F)) 𝒱₀ (vt d L) none) Set.univ (Prog.lift (.enqueueDma src (.here dst) (.dma sem) a b c)) Q) := by
  subst h1 h2 h3
  unfold outHas outVal winAny outFl
  iintro ⟨⟨⟨%f, %hf, Hs⟩, Hv⟩, ⟨%fd, Hd⟩⟩ Hk
  iapply (Transfers.wp_dmaLocal (defs := defs₀ (F := F)) countersEmb 𝒱₀ (vt d L) none (src := outS s) (dst := outW w) (q := fullShare) (fs := f) (fd := fd) (default : HIx 1)
    (outW w).view.dmaCredit rfl (View.dmaCredit_pos _ (by decide)) subset_rfl) $$ [Hd Hv Hs]
  · isplitl [Hs]; · iexact Hs
    isplitl [Hd]; · iexact Hd
    iexact Hv
  iintro Hf
  rw [wp_ret]; imodintro
  iapply Hk
  iapply (Transfers.Flight_mono (D' := iprop(winDone (F := F) d L g1 ix h w ∗ outAny (F := F) d L s)) ?_) $$ Hf
  unfold winDone outAny
  iintro ⟨Hd, Hs⟩
  isplitl [Hd]
  · rw [← pts_write_read (ℓthr := vt d L) (outW w).view fullShare fd (gath g1 ix h), ← hf]
    iexact Hd
  · iexists f; iexact Hs

theorem wait_out {Q : PUnit → sProp 𝕄} {s : Fin 2} {w : Fin 800} {src : Memref sig .scVector .vmem S256x128 .f32} {dst : Memref sig .scVector .hbm S256x128 .f32} {sem : DmaSem sig}
    {O : CellTallies nD τ sig (HIx 1)} {W : Waits sig (HIx 1)}
    (h1 : src = outS s) (h2 : dst = outW w) (h3 : sem = (outSem s).sem) {a b} :
    iprop(outFl (F := F) d L g1 ix h s w ∗ ow (F := F) d L O W ∗ Transfers.MayWaits (vt d L) (default : HIx 1) O)
      ⊢ iprop((winDone (F := F) d L g1 ix h w ∗ outIdle (F := F) d L s ∗ ow (F := F) d L O W -∗ Q ⟨⟩)
          -∗ wp frame (wpE (defs₀ (F := F)) 𝒱₀ (vt d L) none) Set.univ (Prog.lift (.waitDma2 sem src dst a b)) Q) := by
  subst h1 h2 h3
  unfold outFl ow
  iintro ⟨Hf, ⟨%W', %hW, HO⟩, Hmw⟩ Hk
  iapply (Transfers.wp_waitLocalO (defs := defs₀ (F := F)) countersEmb 𝒱₀ (vt d L) none (default : HIx 1) (dstw := outW w) rfl) $$ [Hf HO Hmw]
  · isplitl [Hf]; · iexact Hf
    isplitl [HO]; · iexact HO
    iapply (Transfers.MayWaits.elim (.dma (outSem s).sem)) $$ Hmw
  iintro ⟨⟨Hw, Ho⟩, Hsem, HO⟩
  rw [wp_ret]; imodintro
  iapply Hk
  isplitl [Hw]; · iexact Hw
  isplitl [Ho Hsem]
  · unfold outIdle
    isplitl [Ho]; · iexact Ho
    iexact Hsem
  · iexists _
    isplitr
    swap; · iexact HO
    ipureintro
    intro p hp
    rcases Finset.mem_insert.mp hp with rfl | hp
    · exact .inr rfl
    · exact hW p hp

end Ops

end Tile

end Cert.Proof.Emb

end
-- ==== Proof.Tile.lean ====
/-
  One task of the gather: its 25 trips by an invariant of the two rings, and the whole body. What it leaves in its 25
  windows of the result are the rows of the packed table its windows of the index list name.
-/
module

public import proofs.«01_k».proof.Proof.Ops
public import Idealize.ShloMosaic.Lib.SparseCore.ProtocolKit

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.SparseCore.ProtocolKit (finFrom finUpTo bigSep_finFrom_succ bigSep_finFrom_zero bigSep_finFrom_self bigSep_finUpTo_succ bigSep_finUpTo_zero bigSep_finUpTo_self)
open Idealize.ShloMosaic.Rounds
open Idealize.ShloMosaic.Tactic

variable {F : FTy → Type}

local notation "𝕄" => MT nD τ sig (HIx 1) (Elt F) ℕ UU ℕ

section Tile

variable [FloatOps F]
variable (d : Dev nD) (L : grid1.Coords)
variable (g1 : S503808x128.Idx → F .f32) (ix : S204800.Idx → BitVec 32) (h : InRows ix) (q1 q10 : PosShare TreeShare)
variable (O : CellTallies nD τ sig (HIx 1)) (W : Waits sig (HIx 1))

/-- The index ring before trip `t`: window `t` on its way into the trip's slot, the other slot at rest. -/
def inSt (t : ℕ) : sProp 𝕄 :=
  if ht : t < 25 then iprop(inFl (F := F) d L ix q10 (sl2 t) (wn L ⟨t, ht⟩) ∗ inIdle (F := F) d L ix q10 (sl2 (t + 1)))
  else iprop(inIdle (F := F) d L ix q10 (sl2 t) ∗ inIdle (F := F) d L ix q10 (sl2 (t + 1)))

/-- The row ring before trip `t`: the trip's slot at rest, window `t - 1` on its way out of the other. -/
def outSt (t : ℕ) : sProp 𝕄 :=
  if ht : 0 < t ∧ t ≤ 25 then iprop(outFl (F := F) d L g1 ix h (sl2 (t + 1)) (wn L ⟨t - 1, by omega⟩) ∗ outIdle (F := F) d L (sl2 t))
  else iprop(outIdle (F := F) d L (sl2 (t + 1)) ∗ outIdle (F := F) d L (sl2 t))

/-- The windows of the result: those from `t` on not yet started, those before `t - 1` done. -/
def winSt (t : ℕ) : sProp 𝕄 :=
  iprop(bigSep (finFrom 25 t) (fun k => winAny (F := F) d L (wn L k))
    ∗ bigSep (finUpTo 25 (t - 1)) (fun k => winDone (F := F) d L g1 ix h (wn L k)))

def Inv (t : ℕ) (acc : BitVec 32 × BitVec 32 × BitVec 32 × BitVec 32 × BitVec 32) : sProp 𝕄 :=
  iprop(⌜acc = words t⌝ ∗ ow (F := F) d L O W ∗ gSt (F := F) d L g1 q1 ∗ inSt (F := F) d L ix q10 t ∗ outSt (F := F) d L g1 ix h t
    ∗ winSt (F := F) d L g1 ix h t)

/-- The index ring inside trip `t`: its window on the way in, and the next one too. -/
def inMid (t : Fin 25) : sProp 𝕄 :=
  iprop(inFl (F := F) d L ix q10 (sl2 t) (wn L t)
    ∗ (if ht : t.val + 1 < 25 then inFl (F := F) d L ix q10 (sl2 (t.val + 1)) (wn L ⟨t.val + 1, ht⟩) else inIdle (F := F) d L ix q10 (sl2 (t.val + 1))))

theorem inMid_eq (t : Fin 25) : inMid (F := F) d L ix q10 t ⊢ iprop(inFl (F := F) d L ix q10 (sl2 t) (wn L t)
    ∗ (if ht : t.val + 1 < 25 then inFl (F := F) d L ix q10 (sl2 (t.val + 1)) (wn L ⟨t.val + 1, ht⟩) else inIdle (F := F) d L ix q10 (sl2 (t.val + 1)))) := Entails.rfl

theorem part1_wp (t : Fin 25) :
    inSt (F := F) d L ix q10 t.val
      ⊢ wp frame (wpE (defs₀ (F := F)) 𝒱₀ (vt d L) none) Set.univ
          (k1_part1 (F := F) L srcM (Memref.isWhole_whole _) idxM (Memref.isWhole_whole _) dstM (Memref.isWhole_whole _)
            ringI (Memref.isWhole_whole _) cc1_scoped1 ringO (Memref.isWhole_whole _) cc1_scoped3 cc1_scoped4 (V4 L) 0#32 1#32 (tr t) (A6 t) (A7 t) (A7 t) (A9 t) (A10 t))
          (fun a => iprop(⌜nextWords (A7 t) (A7 t) (A9 t) (A10 t) a.2.2.2.2.1 a.2.2.2.2.2.1 a.2.2.2.2.2.2.1 a.2.2.2.2.2.2.2.1 a.2.2.2.2.2.2.2.2.1 a.2.2.2.2.2.2.2.2.2.1
            = words (t.val + 1)⌝ ∗ inMid (F := F) d L ix q10 t)) := by
  obtain ⟨c, s, rfl⟩ : ∃ (c : Fin 2) (s : Fin 16), L = coordsV c s := ⟨L 0, L 1, (coordsV_eta L).symm⟩
  have hk := conds c s t
  have hs := slots t
  have hw := wins c s t
  have hwn : wid (coordsV c s) = s.val + 16 * c.val := rfl
  have hn := next_eq c s t
  unfold inSt inMid
  rw [dif_pos t.isLt]
  iintro ⟨Hf, Hd⟩
  rw [k1_part1_eq_skeleton]; unfold k1_part1_skel
  dsimp only
  rw [wp_bind]
  iapply (wp_assume 𝒱₀ (vt d (coordsV c s)) none Set.univ (chks c s t).2.2)
  rw [wp_ret]; imodintro
  rw [wp_bind]
  iapply (wp_assume 𝒱₀ (vt d (coordsV c s)) none Set.univ (chks c s t).2.1)
  rw [wp_ret]; imodintro
  rw [wp_bind]
  iapply (wp_assume 𝒱₀ (vt d (coordsV c s)) none Set.univ (chks c s t).1)
  rw [wp_ret]; imodintro
  by_cases ht : t.val + 1 < 25
  · have hb : k1_cond1 (coordsV c s) (tr t) (A10 t) = 1#1 := by
      rw [hk.1, decide_eq_true (show t.val < 24 by omega)]; rfl
    rw [dif_pos hb, dif_pos ht, wp_bind]
    iapply (start_in (d := d) (L := coordsV c s) (ix := ix) (q10 := q10) (s := sl2 (t.val + 1)) (w := wn (coordsV c s) ⟨t.val + 1, ht⟩)
      (ixW_of (hw.1.resolve_right (by omega)) _ _) (ixS_of (hs.1.resolve_right (by omega)) _ _) (congrArg SemArray.sem (ixSem_of (hs.2.1.resolve_right (by omega)) _))) $$ Hd
    iintro Hd
    rw [wp_pure]; imodintro
    isplitl []
    · ipureintro; exact hn
    isplitl [Hf]
    · iexact Hf
    · iexact Hd
  · have hb : ¬ k1_cond1 (coordsV c s) (tr t) (A10 t) = 1#1 := by
      rw [hk.1, decide_eq_false (show ¬ t.val < 24 by omega)]; decide
    rw [dif_neg hb, dif_neg ht]
    rw [wp_pure]; imodintro
    isplitl []
    · ipureintro; exact hn
    isplitl [Hf]
    · iexact Hf
    · iexact Hd

/-- Inside trip `t`: its window's indices arrive, the rows they name are gathered, and the window starts on its way out. -/
theorem part2_wp (t : Fin 25) (h3 h2 h1) (iv : BitVec 32) (v64 v65 : BitVec 1) (v66 v71 v76 : BitVec 32) (v96 : BitVec 1) :
    iprop(Transfers.MayWaits (vt d L) (default : HIx 1) O ∗ ow (F := F) d L O W ∗ gSt (F := F) d L g1 q1
        ∗ inFl (F := F) d L ix q10 (sl2 t) (wn L t) ∗ outIdle (F := F) d L (sl2 t) ∗ winAny (F := F) d L (wn L t))
      ⊢ wp frame (wpE (defs₀ (F := F)) 𝒱₀ (vt d L) none) Set.univ
          (k1_part2 (F := F) L srcM (Memref.isWhole_whole _) idxM (Memref.isWhole_whole _) dstM (Memref.isWhole_whole _)
            ringI (Memref.isWhole_whole _) cc1_scoped1 ringO (Memref.isWhole_whole _) cc1_scoped3 cc1_scoped4 (tr t) (A6 t) (A7 t) (A7 t) (A9 t) (A10 t)
            h3 h2 h1 iv v64 v65 v66 v71 v76 v96)
          (fun a => iprop(⌜a = Scalar.select (Scalar.andi (Scalar.ori (Scalar.cmpi .ne v66 v76) v65) 1#1) (Scalar.addi (A7 t) 1#32) (A7 t)⌝
            ∗ ow (F := F) d L O W ∗ gSt (F := F) d L g1 q1 ∗ inIdle (F := F) d L ix q10 (sl2 t) ∗ outFl (F := F) d L g1 ix h (sl2 t) (wn L t))) := by
  obtain ⟨c, s, rfl⟩ : ∃ (c : Fin 2) (s : Fin 16), L = coordsV c s := ⟨L 0, L 1, (coordsV_eta L).symm⟩
  have hk := conds c s t
  have hs := slots t
  have hw := wins c s t
  iintro ⟨#Hmw, Ho, Hg, Hf, Hr, Hw⟩
  rw [k1_part2_eq_skeleton]; unfold k1_part2_skel
  dsimp only
  rw [dif_pos hk.2.1, wp_bind]
  iapply (wait_in (d := d) (L := coordsV c s) (ix := ix) (q10 := q10) (s := sl2 t) (w := wn (coordsV c s) t) (O := O) (W := W)
    (ixW_of hw.2.1 _ _) (ixS_of hs.2.2.1 _ _) (congrArg SemArray.sem (ixSem_of hs.2.2.2.1 _))) $$ [Hf Ho]
  · isplitl [Hf]
    · iexact Hf
    isplitl [Ho]
    · iexact Ho
    · iexact Hmw
  iintro ⟨Hf, Ho⟩
  simp only [ite_self]
  iapply (gather_then (d := d) (L := coordsV c s) (g1 := g1) (ix := ix) (h := h) (q1 := q1) (q10 := q10) (O := O) (W := W) (s := sl2 t) (s' := sl2 t)
    (w := wn (coordsV c s) t) (outS_of hs.2.2.2.2.1 _ _) (ixS_of hs.2.2.2.2.2.1 _ _) (outS_of hs.2.2.2.2.1 _ _)) $$ [Hf Hr Hg Ho]
  · isplitl [Hf]
    · iexact Hf
    isplitl [Hr]
    · iexact Hr
    isplitl [Hg]
    · iexact Hg
    isplitl [Ho]
    · iexact Ho
    · iexact Hmw
  iintro ⟨Hf, Hr, Hg, Ho⟩
  rw [dif_pos hk.2.2.1, wp_bind]
  iapply (start_out (d := d) (L := coordsV c s) (g1 := g1) (ix := ix) (h := h) (s := sl2 t) (w := wn (coordsV c s) t)
    (outS_of hs.2.2.2.2.2.2.1 _ _) (outW_of hw.2.2.1 _ _) (congrArg SemArray.sem (outSem_of hs.2.2.2.2.2.2.2.1 _))) $$ [Hr Hw]
  · isplitl [Hr]
    · iexact Hr
    · iexact Hw
  iintro Hr
  rw [wp_pure]; imodintro
  isplitl []
  · ipureintro; rfl
  isplitl [Ho]
  · iexact Ho
  isplitl [Hg]
  · iexact Hg
  isplitl [Hf]
  · iapply (inHas_idle (d := d) (L := coordsV c s) (ix := ix) (q10 := q10) (sl2 t) (wn (coordsV c s) t)) $$ Hf
  · iexact Hr

theorem sl2_two (t : ℕ) : sl2 (t + 1 + 1) = sl2 t := Fin.ext (by show (t + 1 + 1) % 2 = t % 2; omega)

theorem outSt_succ (t : Fin 25) :
    outSt (F := F) d L g1 ix h (t.val + 1) = iprop(outFl (F := F) d L g1 ix h (sl2 t) (wn L t) ∗ outIdle (F := F) d L (sl2 (t.val + 1))) := by
  unfold outSt
  rw [dif_pos ⟨Nat.succ_pos _, t.isLt⟩, sl2_two]
  rfl

theorem outSt_pos (t : Fin 25) (ht : 0 < t.val) :
    outSt (F := F) d L g1 ix h t.val
      ⊢ iprop(outFl (F := F) d L g1 ix h (sl2 (t.val + 1)) (wn L ⟨t.val - 1, by omega⟩) ∗ outIdle (F := F) d L (sl2 t)) := by
  unfold outSt
  rw [dif_pos ⟨ht, t.isLt.le⟩]

theorem outSt_zero (t : Fin 25) (ht : ¬ 0 < t.val) :
    outSt (F := F) d L g1 ix h t.val ⊢ iprop(outIdle (F := F) d L (sl2 (t.val + 1)) ∗ outIdle (F := F) d L (sl2 t)) := by
  unfold outSt
  rw [dif_neg (fun hc => ht hc.1)]

theorem winSt_at (t : Fin 25) :
    winSt (F := F) d L g1 ix h t.val
      ⊢ iprop(winAny (F := F) d L (wn L t) ∗ bigSep (finFrom 25 (t.val + 1)) (fun k => winAny (F := F) d L (wn L k))
        ∗ bigSep (finUpTo 25 (t.val - 1)) (fun k => winDone (F := F) d L g1 ix h (wn L k))) := by
  unfold winSt; rw [bigSep_finFrom_succ t.isLt]
  iintro ⟨⟨H1, H2⟩, H3⟩
  isplitl [H1]
  · iexact H1
  isplitl [H2]
  · iexact H2
  · iexact H3

theorem winDone_step (t : Fin 25) (ht : 0 < t.val) :
    iprop(winDone (F := F) d L g1 ix h (wn L ⟨t.val - 1, by omega⟩)
        ∗ bigSep (finUpTo 25 (t.val - 1)) (fun k => winDone (F := F) d L g1 ix h (wn L k)))
      ⊢ bigSep (finUpTo 25 (t.val + 1 - 1)) (fun k => winDone (F := F) d L g1 ix h (wn L k)) := by
  have e : t.val + 1 - 1 = (t.val - 1) + 1 := by omega
  rw [e, bigSep_finUpTo_succ (show t.val - 1 < 25 by omega)]

theorem inMid_next (t : Fin 25) :
    iprop((if ht : t.val + 1 < 25 then inFl (F := F) d L ix q10 (sl2 (t.val + 1)) (wn L ⟨t.val + 1, ht⟩) else inIdle (F := F) d L ix q10 (sl2 (t.val + 1)))
      ∗ inIdle (F := F) d L ix q10 (sl2 t)) ⊢ inSt (F := F) d L ix q10 (t.val + 1) := by
  unfold inSt
  rw [sl2_two]
  by_cases ht : t.val + 1 < 25
  · rw [dif_pos ht, dif_pos ht]
  · rw [dif_neg ht, dif_neg ht]

theorem trip (t : Fin 25) :
    iprop(Transfers.MayWaits (vt d L) (default : HIx 1) O ∗ Inv (F := F) d L g1 ix h q1 q10 O W t.val (words t.val))
      ⊢ wp frame (wpE (defs₀ (F := F)) 𝒱₀ (vt d L) none) Set.univ
          (k1_t1_body (F := F) L srcM (Memref.isWhole_whole _) idxM (Memref.isWhole_whole _) dstM (Memref.isWhole_whole _)
            ringI (Memref.isWhole_whole _) cc1_scoped1 ringO (Memref.isWhole_whole _) cc1_scoped3 cc1_scoped4 (V4 L) 1#32 0#32 (tr t) (words t.val))
          (Inv (F := F) d L g1 ix h q1 q10 O W (t.val + 1)) := by
  have hk : k1_cond7 L (tr t) (A10 t) = b01 (decide (0 < t.val)) := by
    have := conds (L 0) (L 1) t; rw [coordsV_eta] at this; exact this.2.2.2
  have hk7 : 0 < t.val → k1_cond7 L (tr t) (A10 t) = 1#1 := fun ht => by rw [hk, decide_eq_true ht]; rfl
  have hk7' : ¬ 0 < t.val → ¬ k1_cond7 L (tr t) (A10 t) = 1#1 := fun ht => by rw [hk, decide_eq_false ht]; decide
  have hs := slots t
  have hs1 := hs.2.2.2.2.2.2.2.2.1
  have hs2 := hs.2.2.2.2.2.2.2.2.2
  have hw0 : k1_off16 L (A10 t) = ![256 * (25 * wid L + (t.val - 1)), 0] ∨ t.val = 0 := by
    have := wins (L 0) (L 1) t; rw [coordsV_eta] at this; exact this.2.2.2
  unfold k1_t1_body Inv
  dsimp only
  iintro ⟨#Hmw, %h0, Ho, Hg, Hi, Hr, Hw⟩
  rw [wp_bind]
  iapply (wp_wand _ _ _) $$ [Hi]
  · iapply (part1_wp (F := F) d L ix q10 t) $$ Hi
  iintro %a ⟨%hn, Hi⟩
  ihave Hi := (inMid_eq (F := F) d L ix q10 t) $$ Hi
  icases Hi with ⟨Hf, Hi⟩
  ihave Hw := (winSt_at (F := F) d L g1 ix h t) $$ Hw
  icases Hw with ⟨Hwt, Hwr, Hwd⟩
  by_cases ht : 0 < t.val
  · ihave Hr := (outSt_pos (F := F) d L g1 ix h t ht) $$ Hr
    icases Hr with ⟨Hp, Hr⟩
    have hw1 := hw0.resolve_right (by omega)
    have es : (t.val - 1) % 2 = (t.val + 1) % 2 := by omega
    have e1 : (![(t.val - 1) % 2, 0, 0] : Fin 3 → ℕ) = ![(sl2 (t.val + 1)).val, 0, 0] := by rw [es]
    have e2 : (![(t.val - 1) % 2] : Fin 1 → ℕ) = ![(sl2 (t.val + 1)).val] := by rw [es]
    rw [wp_bind]
    iapply (wp_wand _ _ _) $$ [Ho Hg Hf Hr Hwt]
    · iapply (part2_wp (F := F) d L g1 ix h q1 q10 O W t) $$ [Ho Hg Hf Hr Hwt]
      isplitl []
      · iexact Hmw
      isplitl [Ho]
      · iexact Ho
      isplitl [Hg]
      · iexact Hg
      isplitl [Hf]
      · iexact Hf
      isplitl [Hr]
      · iexact Hr
      · iexact Hwt
    iintro %b ⟨%hb, Ho, Hg, Hf, Hr⟩
    simp only [ite_self]
    rw [dif_pos (hk7 ht), wp_bind]
    iapply (wait_out (d := d) (L := L) (g1 := g1) (ix := ix) (h := h) (O := O) (W := W) (s := sl2 (t.val + 1)) (w := wn L ⟨t.val - 1, by omega⟩)
      (outS_of (hs1.trans e1) _ _) (outW_of hw1 _ _) (congrArg SemArray.sem (outSem_of (hs2.trans e2) _))) $$ [Hp Ho]
    · isplitl [Hp]
      · iexact Hp
      isplitl [Ho]
      · iexact Ho
      · iexact Hmw
    iintro ⟨Hwn, Hp, Ho⟩
    rw [wp_pure]; imodintro
    isplitl []
    · ipureintro; rw [hb]; exact hn
    isplitl [Ho]
    · iexact Ho
    isplitl [Hg]
    · iexact Hg
    isplitl [Hf Hi]
    · iapply (inMid_next (F := F) d L ix q10 t) $$ [Hf Hi]
      isplitl [Hi]
      · iexact Hi
      · iexact Hf
    isplitl [Hr Hp]
    · rw [outSt_succ]
      isplitl [Hr]
      · iexact Hr
      · iexact Hp
    · unfold winSt
      isplitl [Hwr]
      · iexact Hwr
      · iapply (winDone_step (F := F) d L g1 ix h t ht) $$ [Hwn Hwd]
        isplitl [Hwn]
        · iexact Hwn
        · iexact Hwd
  · ihave Hr := (outSt_zero (F := F) d L g1 ix h t ht) $$ Hr
    icases Hr with ⟨Hp, Hr⟩
    rw [wp_bind]
    iapply (wp_wand _ _ _) $$ [Ho Hg Hf Hr Hwt]
    · iapply (part2_wp (F := F) d L g1 ix h q1 q10 O W t) $$ [Ho Hg Hf Hr Hwt]
      isplitl []
      · iexact Hmw
      isplitl [Ho]
      · iexact Ho
      isplitl [Hg]
      · iexact Hg
      isplitl [Hf]
      · iexact Hf
      isplitl [Hr]
      · iexact Hr
      · iexact Hwt
    iintro %b ⟨%hb, Ho, Hg, Hf, Hr⟩
    simp only [ite_self]
    rw [dif_neg (hk7' ht)]
    rw [wp_pure]; imodintro
    isplitl []
    · ipureintro; rw [hb]; exact hn
    isplitl [Ho]
    · iexact Ho
    isplitl [Hg]
    · iexact Hg
    isplitl [Hf Hi]
    · iapply (inMid_next (F := F) d L ix q10 t) $$ [Hf Hi]
      isplitl [Hi]
      · iexact Hi
      · iexact Hf
    isplitl [Hr Hp]
    · rw [outSt_succ]
      isplitl [Hr]
      · iexact Hr
      · iexact Hp
    · unfold winSt
      isplitl [Hwr]
      · iexact Hwr
      · have e : t.val + 1 - 1 = t.val - 1 := by omega
        rw [e]
        iexact Hwd

end Tile

end Cert.Proof.Emb

end
-- ==== Proof.Body.lean ====
/-
  A whole task of the gather: the first window's fetch, the 25 trips, the last window's wait; and the same from what the
  launch hands a task (its own buffers and semaphores) to what it hands back.
-/
module

public import proofs.«01_k».proof.Proof.Tile
public import Idealize.ShloMosaic.Lib.SparseCore.ProtocolKit

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.SparseCore.ProtocolKit (finFrom finUpTo bigSep_finFrom_succ bigSep_finFrom_zero bigSep_finFrom_self bigSep_finUpTo_succ bigSep_finUpTo_zero bigSep_finUpTo_self)
open Idealize.ShloMosaic.Rounds
open Idealize.ShloMosaic.Tactic

variable {F : FTy → Type}

local notation "𝕄" => MT nD τ sig (HIx 1) (Elt F) ℕ UU ℕ

section Tile

variable [FloatOps F]
variable (d : Dev nD) (L : grid1.Coords)
variable (g1 : S503808x128.Idx → F .f32) (ix : S204800.Idx → BitVec 32) (h : InRows ix) (q1 q10 : PosShare TreeShare)
variable (O : CellTallies nD τ sig (HIx 1)) (W : Waits sig (HIx 1))

/-! ## The elements of the slots and windows -/

abbrev ixI (s : Fin 2) : Finset S512.Idx := (ixS s).view.set
abbrev outI (s : Fin 2) : Finset S2x256x128.Idx := (outS s).view.set
abbrev winI (w : Fin 800) : Finset S204800x128.Idx := (outW w).view.set

theorem mem_ixS (s : Fin 2) (i : S512.Idx) : i ∈ ixI s ↔ (i 0).val / 256 = s.val := by
  have e : ixI s = (Rect.unit (s := S512) ![256 * s.val] S256.size (ixS_inb s)).set := View.set_slice_whole cc1_scoped0 _
  rw [e, LoadRect.mem_set]
  constructor
  · intro hi
    obtain ⟨j, hj, he⟩ := hi 0
    have hj' : j < 256 := hj
    have he' : (i 0).val = 256 * s.val + 1 * j := he
    omega
  · intro hi a
    have ha : a = 0 := Subsingleton.elim _ _
    subst ha
    refine ⟨(i 0).val % 256, Nat.mod_lt _ (by decide), ?_⟩
    show (i 0).val = 256 * s.val + 1 * ((i 0).val % 256)
    omega

theorem mem_outS (s : Fin 2) (i : S2x256x128.Idx) : i ∈ outI s ↔ (i 0).val = s.val := by
  have e : outI s = (Rect.unit (s := S2x256x128) ![s.val, 0, 0] S1x256x128.size (outS_inb s)).set :=
    (View.set_reshape _ _).trans (View.set_slice_whole cc1_scoped2 _)
  rw [e, LoadRect.mem_set]
  constructor
  · intro hi
    obtain ⟨j, hj, he⟩ := hi 0
    have hj' : j < 1 := hj
    have he' : (i 0).val = s.val + 1 * j := he
    omega
  · intro hi a
    match a with
    | ⟨0, _⟩ => exact ⟨0, Nat.one_pos, by show (i 0).val = s.val + 1 * 0; omega⟩
    | ⟨1, _⟩ => exact ⟨(i 1).val, (i 1).isLt, by show (i 1).val = 0 + 1 * (i 1).val; omega⟩
    | ⟨2, _⟩ => exact ⟨(i 2).val, (i 2).isLt, by show (i 2).val = 0 + 1 * (i 2).val; omega⟩

theorem mem_outW (w : Fin 800) (i : S204800x128.Idx) : i ∈ winI w ↔ (i 0).val / 256 = w.val := by
  have e : winI w = (Rect.unit (s := S204800x128) ![256 * w.val, 0] S256x128.size (outW_inb w)).set := View.set_slice_whole main_v11_scv _
  rw [e, LoadRect.mem_set]
  constructor
  · intro hi
    obtain ⟨j, hj, he⟩ := hi 0
    have hj' : j < 256 := hj
    have he' : (i 0).val = 256 * w.val + 1 * j := he
    omega
  · intro hi a
    match a with
    | ⟨0, _⟩ => exact ⟨(i 0).val % 256, Nat.mod_lt _ (by decide), by show (i 0).val = 256 * w.val + 1 * ((i 0).val % 256); omega⟩
    | ⟨1, _⟩ => exact ⟨(i 1).val, (i 1).isLt, by show (i 1).val = 0 + 1 * (i 1).val; omega⟩

theorem ixS_disj (a b : Fin 2) (hab : a ≠ b) : Disjoint (ixI a) (ixI b) := by
  rw [Finset.disjoint_left]; intro i h1 h2
  exact hab (Fin.ext (((mem_ixS a i).mp h1).symm.trans ((mem_ixS b i).mp h2)))
theorem ixS_cover : Finset.univ.biUnion ixI = Finset.univ := by
  ext i
  have hi : (i 0).val < 512 := (i 0).isLt
  simp only [Finset.mem_biUnion, Finset.mem_univ, true_and, iff_true]
  exact ⟨⟨(i 0).val / 256, by omega⟩, (mem_ixS _ i).mpr rfl⟩
theorem outS_disj (a b : Fin 2) (hab : a ≠ b) : Disjoint (outI a) (outI b) := by
  rw [Finset.disjoint_left]; intro i h1 h2
  exact hab (Fin.ext (((mem_outS a i).mp h1).symm.trans ((mem_outS b i).mp h2)))
theorem outS_cover : Finset.univ.biUnion outI = Finset.univ := by
  ext i
  simp only [Finset.mem_biUnion, Finset.mem_univ, true_and, iff_true]
  exact ⟨i 0, (mem_outS _ i).mpr rfl⟩
theorem outW_disj (a b : Fin 800) (hab : a ≠ b) : Disjoint (winI a) (winI b) := by
  rw [Finset.disjoint_left]; intro i h1 h2
  exact hab (Fin.ext (((mem_outW a i).mp h1).symm.trans ((mem_outW b i).mp h2)))
theorem outW_cover : Finset.univ.biUnion winI = Finset.univ := by
  ext i
  have hi : (i 0).val < 204800 := (i 0).isLt
  simp only [Finset.mem_biUnion, Finset.mem_univ, true_and, iff_true]
  exact ⟨⟨(i 0).val / 256, by omega⟩, (mem_outW _ i).mpr rfl⟩

theorem rings_in (f : S512.Idx → Elt F .i32) :
    ((vt d L).loc cc1_scoped0 ↦{fullShare} f : sProp 𝕄) ⊢ iprop(ixAny (F := F) d L 0 ∗ ixAny (F := F) d L 1) := by
  rw [Ring.pointsTo_blocks (ℓ := (vt d L).loc cc1_scoped0) ixI ixS_disj ixS_cover, Ring.bigSep_fin2]
  unfold ixAny
  iintro ⟨H0, H1⟩
  isplitl [H0]
  · iexists f; iexact H0
  · iexists f; iexact H1
theorem rings_out (f : S2x256x128.Idx → Elt F .f32) :
    ((vt d L).loc cc1_scoped2 ↦{fullShare} f : sProp 𝕄) ⊢ iprop(outAny (F := F) d L 0 ∗ outAny (F := F) d L 1) := by
  rw [Ring.pointsTo_blocks (ℓ := (vt d L).loc cc1_scoped2) outI outS_disj outS_cover, Ring.bigSep_fin2]
  unfold outAny
  iintro ⟨H0, H1⟩
  isplitl [H0]
  · iexists f; iexact H0
  · iexists f; iexact H1
theorem rings_in_back (f₀ : S512.Idx → Elt F .i32) :
    iprop(ixAny (F := F) d L 0 ∗ ixAny (F := F) d L 1) ⊢ (iprop(∃ f, (vt d L).loc cc1_scoped0 ↦{fullShare} f) : sProp 𝕄) := by
  refine BIBase.Entails.trans ?_ (Ring.pointsTo_blocks_join_exists (ℓ := (vt d L).loc cc1_scoped0) ixI ixS_disj ixS_cover f₀)
  rw [Ring.bigSep_fin2]; unfold ixAny; exact BIBase.Entails.rfl
theorem rings_out_back (f₀ : S2x256x128.Idx → Elt F .f32) :
    iprop(outAny (F := F) d L 0 ∗ outAny (F := F) d L 1) ⊢ (iprop(∃ f, (vt d L).loc cc1_scoped2 ↦{fullShare} f) : sProp 𝕄) := by
  refine BIBase.Entails.trans ?_ (Ring.pointsTo_blocks_join_exists (ℓ := (vt d L).loc cc1_scoped2) outI outS_disj outS_cover f₀)
  rw [Ring.bigSep_fin2]; unfold outAny; exact BIBase.Entails.rfl

/-! ## The program of a task -/

theorem inSt_zero : inSt (F := F) d L ix q10 0 = iprop(inFl (F := F) d L ix q10 0 (wn L 0) ∗ inIdle (F := F) d L ix q10 1) := by
  unfold inSt; rw [dif_pos (by decide)]; rfl
theorem inSt_last : inSt (F := F) d L ix q10 25 = iprop(inIdle (F := F) d L ix q10 1 ∗ inIdle (F := F) d L ix q10 0) := by
  unfold inSt; rw [dif_neg (by decide)]; rfl
theorem outSt_first : outSt (F := F) d L g1 ix h 0 = iprop(outIdle (F := F) d L 1 ∗ outIdle (F := F) d L 0) := by
  unfold outSt; rw [dif_neg (by decide)]; rfl
theorem outSt_last : outSt (F := F) d L g1 ix h 25 = iprop(outFl (F := F) d L g1 ix h 0 (wn L 24) ∗ outIdle (F := F) d L 1) := by
  unfold outSt; rw [dif_pos (by decide)]; rfl

/-- What a task is given, and what it leaves: its share of the packed table and of the index list, its rings, and its
    windows of the result. -/
def given : sProp 𝕄 :=
  iprop(ow (F := F) d L O W ∗ gSt (F := F) d L g1 q1 ∗ (inIdle (F := F) d L ix q10 0 ∗ inIdle (F := F) d L ix q10 1)
    ∗ (outIdle (F := F) d L 0 ∗ outIdle (F := F) d L 1) ∗ bigSep Finset.univ (fun k => winAny (F := F) d L (wn L k)))
def left : sProp 𝕄 :=
  iprop(ow (F := F) d L O W ∗ gSt (F := F) d L g1 q1 ∗ (inIdle (F := F) d L ix q10 0 ∗ inIdle (F := F) d L ix q10 1)
    ∗ (outIdle (F := F) d L 0 ∗ outIdle (F := F) d L 1) ∗ bigSep Finset.univ (fun k => winDone (F := F) d L g1 ix h (wn L k)))

theorem Inv_words (t : ℕ) (acc) : Inv (F := F) d L g1 ix h q1 q10 O W t acc
    ⊢ iprop(⌜acc = words t⌝ ∗ Inv (F := F) d L g1 ix h q1 q10 O W t (words t)) := by
  unfold Inv
  iintro ⟨%e, H⟩
  subst e
  isplitl []
  · ipureintro; rfl
  isplitl []
  · ipureintro; rfl
  · iexact H

/-- The 25 trips. -/
theorem loop_wp :
    iprop(Transfers.MayWaits (vt d L) (default : HIx 1) O ∗ Inv (F := F) d L g1 ix h q1 q10 O W 0 (words 0))
      ⊢ wp frame (wpE (defs₀ (F := F)) 𝒱₀ (vt d L) none) Set.univ
          (Scf.Loop.for k1_t1_loop k1_t1_ok (words 0)
            (k1_t1_body (F := F) L srcM (Memref.isWhole_whole _) idxM (Memref.isWhole_whole _) dstM (Memref.isWhole_whole _)
            ringI (Memref.isWhole_whole _) cc1_scoped1 ringO (Memref.isWhole_whole _) cc1_scoped3 cc1_scoped4 (V4 L) 1#32 0#32))
          (Inv (F := F) d L g1 ix h q1 q10 O W 25) := by
  iintro ⟨#Hmw, H⟩
  iapply (Scf.wp_for _ _ _ _ _ _ k1_t1_ok (words 0) _
    (fun k acc => iprop(Transfers.MayWaits (vt d L) (default : HIx 1) O ∗ Inv (F := F) d L g1 ix h q1 q10 O W k acc)) ?_)
  · intro k acc
    iintro ⟨#Hmw, H⟩
    ihave H := (Inv_words (F := F) d L g1 ix h q1 q10 O W k.val acc) $$ H
    icases H with ⟨%e, H⟩
    subst e
    iapply (wp_wand _ _ _) $$ [H]
    · iapply (trip (F := F) d L g1 ix h q1 q10 O W (Fin.cast trips_eq k)) $$ [H]
      isplitl []
      · iexact Hmw
      · iexact H
    iintro %a H
    isplitl []
    · iexact Hmw
    · iexact H
  · isplitl [H]
    · isplitl []
      · iexact Hmw
      · iexact H
    · iintro %acc ⟨-, H⟩
      iexact H

theorem Inv_end (acc) : Inv (F := F) d L g1 ix h q1 q10 O W 25 acc
    ⊢ iprop(⌜acc = words 25⌝ ∗ ow (F := F) d L O W ∗ gSt (F := F) d L g1 q1 ∗ (inIdle (F := F) d L ix q10 1 ∗ inIdle (F := F) d L ix q10 0)
      ∗ (outFl (F := F) d L g1 ix h 0 (wn L 24) ∗ outIdle (F := F) d L 1) ∗ bigSep (finUpTo 25 24) (fun k => winDone (F := F) d L g1 ix h (wn L k))) := by
  unfold Inv winSt
  rw [inSt_last, outSt_last]
  iintro ⟨%e, Ho, Hg, Hi, Hr, -, Hw⟩
  isplitl []
  · ipureintro; exact e
  isplitl [Ho]
  · iexact Ho
  isplitl [Hg]
  · iexact Hg
  isplitl [Hi]
  · iexact Hi
  isplitl [Hr]
  · iexact Hr
  · iexact Hw

/-- The task's program, from its rings at rest to its rings at rest, its windows filled. -/
theorem gather_wp :
    iprop(Transfers.MayWaits (vt d L) (default : HIx 1) O ∗ given (F := F) d L g1 ix q1 q10 O W)
      ⊢ wp frame (wpE (defs₀ (F := F)) 𝒱₀ (vt d L) none) Set.univ
          (cc1_sc_gather (F := F) L srcM (Memref.isWhole_whole _) idxM (Memref.isWhole_whole _) dstM (Memref.isWhole_whole _)
            ringI (Memref.isWhole_whole _) cc1_scoped1 ringO (Memref.isWhole_whole _) cc1_scoped3 cc1_scoped4)
          (fun _ => left (F := F) d L g1 ix h q1 q10 O W) := by
  have he := ends (L 0) (L 1)
  have hc := chks_end (L 0) (L 1)
  rw [coordsV_eta] at he hc
  rw [cc1_sc_gather_eq_skeleton]; unfold cc1_sc_gather_skel given left
  iintro ⟨#Hmw, Ho, Hg, ⟨Hi0, Hi1⟩, ⟨Hr0, Hr1⟩, Hw⟩
  rw [wp_bind, k1_part3_eq_skeleton]; unfold k1_part3_skel
  dsimp only
  rw [wp_bind]
  iapply (start_in (d := d) (L := L) (ix := ix) (q10 := q10) (s := 0) (w := wn L 0)
    (ixW_of he.2.2.1 _ _) (ixS_of he.1 _ _) (congrArg SemArray.sem (ixSem_of he.2.1 _))) $$ Hi0
  iintro Hi0
  rw [wp_pure]; imodintro
  rw [wp_bind, k1_part4_eq_skeleton]; unfold k1_part4_skel
  dsimp only
  rw [wp_bind]
  iapply (wp_wand _ _ _) $$ [Ho Hg Hi0 Hi1 Hr0 Hr1 Hw]
  · iapply (loop_wp (F := F) d L g1 ix h q1 q10 O W) $$ [Ho Hg Hi0 Hi1 Hr0 Hr1 Hw]
    isplitl []
    · iexact Hmw
    unfold Inv
    isplitl []
    · ipureintro; rfl
    isplitl [Ho]
    · iexact Ho
    isplitl [Hg]
    · iexact Hg
    rw [inSt_zero, outSt_first]
    isplitl [Hi0 Hi1]
    · isplitl [Hi0]
      · iexact Hi0
      · iexact Hi1
    isplitl [Hr0 Hr1]
    · isplitl [Hr1]
      · iexact Hr1
      · iexact Hr0
    unfold winSt
    rw [bigSep_finFrom_zero, bigSep_finUpTo_zero]
    isplitl [Hw]
    · iexact Hw
    · iempintro
  iintro %acc H
  ihave H := (Inv_end (F := F) d L g1 ix h q1 q10 O W acc) $$ H
  icases H with ⟨%e, Ho, Hg, ⟨Hi1, Hi0⟩, ⟨Hr0, Hr1⟩, Hw⟩
  subst e
  dsimp only
  rw [wp_bind]
  iapply (wp_assume 𝒱₀ (vt d L) none Set.univ hc.1)
  rw [wp_ret]; imodintro
  rw [wp_bind]
  iapply (wp_assume 𝒱₀ (vt d L) none Set.univ hc.2)
  rw [wp_ret]; imodintro
  rw [wp_pure]; imodintro
  dsimp only
  rw [wp_bind]
  iapply (wait_out (d := d) (L := L) (g1 := g1) (ix := ix) (h := h) (O := O) (W := W) (s := 0) (w := wn L 24)
    (outS_of he.2.2.2.2.2 _ _) (outW_of he.2.2.2.1 _ _) (congrArg SemArray.sem (outSem_of he.2.2.2.2.1 _))) $$ [Hr0 Ho]
  · isplitl [Hr0]
    · iexact Hr0
    isplitl [Ho]
    · iexact Ho
    · iexact Hmw
  iintro ⟨Hwn, Hr0, Ho⟩
  rw [wp_pure]; imodintro
  isplitl [Ho]
  · iexact Ho
  isplitl [Hg]
  · iexact Hg
  isplitl [Hi0 Hi1]
  · isplitl [Hi0]
    · iexact Hi0
    · iexact Hi1
  isplitl [Hr0 Hr1]
  · isplitl [Hr0]
    · iexact Hr0
    · iexact Hr1
  rw [← bigSep_finUpTo_self, bigSep_finUpTo_succ (show 24 < 25 by decide)]
  isplitl [Hwn]
  · iexact Hwn
  · iexact Hw

end Tile

end Cert.Proof.Emb

end
-- ==== Proof.Task.lean ====
/-
  A task of the gather, from what the launch hands it to what it hands back.
-/
module

public import proofs.«01_k».proof.Proof.Body
public import Idealize.ShloMosaic.Lib.SparseCore.ProtocolKit

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.SparseCore.ProtocolKit (finFrom finUpTo bigSep_finFrom_succ bigSep_finFrom_zero bigSep_finFrom_self bigSep_finUpTo_succ bigSep_finUpTo_zero bigSep_finUpTo_self)
open Idealize.ShloMosaic.Rounds
open Idealize.ShloMosaic.Tactic

variable {F : FTy → Type}

local notation "𝕄" => MT nD τ sig (HIx 1) (Elt F) ℕ UU ℕ

section Task

variable (d : Dev nD) (L : grid1.Coords)

/-- The five semaphores a task uses. -/
def sems : Fin 5 → DmaSem sig
  | 0 => (ixSem 0).sem
  | 1 => (ixSem 1).sem
  | 2 => (outSem 0).sem
  | 3 => (outSem 1).sem
  | 4 => cc1_scoped4.sem

theorem sems_inj : Function.Injective sems := by decide
theorem sems_scoped : ∀ k, (SemLoc.dma (sems k) : SemLoc sig).isScoped .scVector = true := by decide

def cellEmb : Fin 5 ↪ GSem nD τ sig :=
  ⟨fun k => (vt d L, .dma (sems k)), fun a b hab => sems_inj (by
    have h2 : (SemLoc.dma (sems a) : SemLoc sig) = .dma (sems b) := (Prod.mk.inj hab).2
    exact SemLoc.dma.inj h2)⟩

def restSems : sProp 𝕄 := bigSep (ownCells (vt d L) \ Finset.univ.map (cellEmb d L)) fun g => semVal g 0

theorem ownSems0_V :
    (ownSems0 (vt d L) : sProp 𝕄)
      = iprop((semVal (vt d L, .dma (ixSem 0).sem) 0 ∗ semVal (vt d L, .dma (ixSem 1).sem) 0 ∗ semVal (vt d L, .dma (outSem 0).sem) 0
          ∗ semVal (vt d L, .dma (outSem 1).sem) 0 ∗ semVal (vt d L, .dma cc1_scoped4.sem) 0) ∗ restSems (F := F) d L) := by
  unfold SparseCore.Cfg.ownSems0 restSems
  have hs : Finset.univ.map (cellEmb d L) ⊆ ownCells (vt d L) := by
    intro g hg
    obtain ⟨k, -, rfl⟩ := Finset.mem_map.mp hg
    exact mem_ownCells.mpr ⟨rfl, sems_scoped k⟩
  rw [← Finset.union_sdiff_of_subset hs, SparseCore.bigSep_union' Finset.disjoint_sdiff, bigSep_map]
  rw [Finset.union_sdiff_of_subset hs]
  congr 1
  rw [Idealize.ShloMosaic.bigSep_univ_succ, Idealize.ShloMosaic.bigSep_univ_succ, Idealize.ShloMosaic.bigSep_univ_succ, Idealize.ShloMosaic.bigSep_univ_succ,
    bigSep_univ_of_subsingleton (0 : Fin 1)]
  rfl

/-- The rest of a task's own buffers. -/
def restBufs : sProp 𝕄 :=
  bigSep (((ownRefs (τ := τ) (.scVector (cV L) (jV L))).erase ((Proc.scVector (cV L) (jV L)).devRef cc1_scoped0)).erase
    ((Proc.scVector (cV L) (jV L)).devRef cc1_scoped2)) fun b => iprop(∃ f, ((d, b) : Loc nD τ sig) ↦{fullShare} f)

theorem ownBufs_V :
    (ownBufs (vt d L) : sProp 𝕄)
      = iprop((∃ f, (vt d L).loc cc1_scoped0 ↦{fullShare} f) ∗ (∃ f, (vt d L).loc cc1_scoped2 ↦{fullShare} f) ∗ restBufs (F := F) d L) := by
  unfold SparseCore.Cfg.ownBufs restBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

variable [FloatOps F]
variable (Good : (S503808x128.Idx → F .f32) → Prop) (ix : S204800.Idx → BitVec 32) (h : InRows ix) (G : S204800x128.Idx → F .f32)
  (q : PosShare TreeShare)

/-- What a task is handed: a share of the packed table, which is good, a share of the index list, its windows; -/
def goT : sProp 𝕄 :=
  iprop((∃ g1, ⌜Good g1⌝ ∗ (srcM).view.loc (vt d L) ↦{q} g1) ∗ ((idxM).view.loc (vt d L) ↦{q} ix)
    ∗ bigSep Finset.univ (fun k => winAny (F := F) d L (wn L k)))
/-- and what it hands back: its windows filled. -/
def tdT : sProp 𝕄 :=
  bigSep Finset.univ fun k => ((outW (wn L k)).view.loc (vt d L) ↦[(outW (wn L k)).view.set]{fullShare} G : sProp 𝕄)

theorem given_of (g1 : S503808x128.Idx → F .f32) (O : CellTallies nD τ sig (HIx 1)) (W : Waits sig (HIx 1)) :
    iprop(((srcM).view.loc (vt d L) ↦{q} g1) ∗ ((idxM).view.loc (vt d L) ↦{q} ix) ∗ bigSep Finset.univ (fun k => winAny (F := F) d L (wn L k))
        ∗ (∃ f, (vt d L).loc cc1_scoped0 ↦{fullShare} f) ∗ (∃ f, (vt d L).loc cc1_scoped2 ↦{fullShare} f)
        ∗ (semVal (vt d L, .dma (ixSem 0).sem) 0 ∗ semVal (vt d L, .dma (ixSem 1).sem) 0 ∗ semVal (vt d L, .dma (outSem 0).sem) 0
          ∗ semVal (vt d L, .dma (outSem 1).sem) 0 ∗ semVal (vt d L, .dma cc1_scoped4.sem) 0) ∗ owes (vt d L) O W)
      ⊢ given (F := F) d L g1 ix q q O W := by
  unfold given ow gSt inIdle outIdle ixPts
  iintro ⟨H1, Hx, Hw, ⟨%fi, Hi⟩, ⟨%fo, Hr⟩, ⟨S0, S1, S2, S3, S4⟩, HO⟩
  ihave Hi := (rings_in (F := F) d L fi) $$ Hi
  icases Hi with ⟨Hi0, Hi1⟩
  ihave Hr := (rings_out (F := F) d L fo) $$ Hr
  icases Hr with ⟨Hr0, Hr1⟩
  ihave Hx := (pointsTo_share (PosShare.mem_left_op_right q)).1 $$ Hx
  icases Hx with ⟨Hx0, Hx1⟩
  isplitl [HO]
  · iexists W
    isplitl []
    · ipureintro; exact fun p hp => .inl hp
    · iexact HO
  isplitl [H1 S4]
  · isplitl [H1]
    · iexact H1
    · iexact S4
  isplitl [Hi0 Hi1 S0 S1 Hx0 Hx1]
  · isplitl [Hi0 S0 Hx0]
    · isplitl [Hi0]
      · iexact Hi0
      isplitl [S0]
      · iexact S0
      · iexact Hx0
    · isplitl [Hi1]
      · iexact Hi1
      isplitl [S1]
      · iexact S1
      · iexact Hx1
  isplitl [Hr0 Hr1 S2 S3]
  · isplitl [Hr0 S2]
    · isplitl [Hr0]
      · iexact Hr0
      · iexact S2
    · isplitl [Hr1]
      · iexact Hr1
      · iexact S3
  · iexact Hw

theorem left_of (g1 : S503808x128.Idx → F .f32) (hg : gath g1 ix h = G) (O : CellTallies nD τ sig (HIx 1)) (W : Waits sig (HIx 1))
    (f₀ : S512.Idx → Elt F .i32) (f₁ : S2x256x128.Idx → Elt F .f32) :
    left (F := F) d L g1 ix h q q O W
      ⊢ iprop(tdT (F := F) d L G ∗ (∃ f, (vt d L).loc cc1_scoped0 ↦{fullShare} f) ∗ (∃ f, (vt d L).loc cc1_scoped2 ↦{fullShare} f)
        ∗ (semVal (vt d L, .dma (ixSem 0).sem) 0 ∗ semVal (vt d L, .dma (ixSem 1).sem) 0 ∗ semVal (vt d L, .dma (outSem 0).sem) 0
          ∗ semVal (vt d L, .dma (outSem 1).sem) 0 ∗ semVal (vt d L, .dma cc1_scoped4.sem) 0)
        ∗ ∃ W', ⌜∀ p ∈ W', p ∈ W ∨ p.2 = none⌝ ∗ owes (vt d L) O W') := by
  subst hg
  unfold left ow gSt inIdle outIdle ixPts tdT
  iintro ⟨HO, ⟨-, S4⟩, ⟨⟨Hi0, S0, -⟩, ⟨Hi1, S1, -⟩⟩, ⟨⟨Hr0, S2⟩, ⟨Hr1, S3⟩⟩, Hw⟩
  isplitl [Hw]
  · iexact Hw
  isplitl [Hi0 Hi1]
  · iapply (rings_in_back (F := F) d L f₀) $$ [Hi0 Hi1]
    isplitl [Hi0]
    · iexact Hi0
    · iexact Hi1
  isplitl [Hr0 Hr1]
  · iapply (rings_out_back (F := F) d L f₁) $$ [Hr0 Hr1]
    isplitl [Hr0]
    · iexact Hr0
    · iexact Hr1
  isplitl [S0 S1 S2 S3 S4]
  · isplitl [S0]
    · iexact S0
    isplitl [S1]
    · iexact S1
    isplitl [S2]
    · iexact S2
    isplitl [S3]
    · iexact S3
    · iexact S4
  · iexact HO

/-- The task on vector subcore `L`, against what the launch hands it. -/
theorem task_wp (hG : ∀ g1, Good g1 → gath g1 ix h = G) (O : CellTallies nD τ sig (HIx 1)) (W : Waits sig (HIx 1)) (hO : ∀ g, O g none = 0) :
    iprop(levAts (K (F := F)).L (K (F := F)).lev ∗ emp ∗ goT (F := F) d L Good ix q
        ∗ scopedBufs (vt d L) ∗ scopedSems0 (vt d L) ∗ owes (vt d L) O W)
      ⊢ wp frame (wpE (defs₀ (F := F)) 𝒱₀ (vt d L) none) Set.univ
          (cc1_sc_gather (F := F) L srcM (Memref.isWhole_whole _) idxM (Memref.isWhole_whole _) dstM (Memref.isWhole_whole _)
            ringI (Memref.isWhole_whole _) cc1_scoped1 ringO (Memref.isWhole_whole _) cc1_scoped3 cc1_scoped4)
          fun _ => iprop(tdT (F := F) d L G ∗ scopedBufs (vt d L) ∗ scopedSems0 (vt d L)
            ∗ ∃ W', ⌜∀ p ∈ W', p ∈ W ∨ p.2 = none⌝ ∗ owes (vt d L) O W') := by
  rw [(K (F := F)).scopedBufs_V facts d (cV L) (jV L), SparseCore.Cfg.scopedSems0_V (Val := Elt F) d (cV L) (jV L), ownSems0_V, ownBufs_V]
  unfold goT
  iintro ⟨#Hlv, -, ⟨⟨%g1, %hgood, H1⟩, Hx, Hw⟩, ⟨⟨%fi, Hi⟩, ⟨%fo, Hr⟩, Hbufs⟩, ⟨Hs, Hsems⟩, HO⟩
  ihave Hmw := (show levAts (K (F := F)).L (K (F := F)).lev ⊢ Transfers.MayWaits (vt d L) (default : HIx 1) O from
    (K (F := F)).mayWaits_none (thr := vt d L) hO) $$ Hlv
  ihave Hgv := (given_of (F := F) d L ix q g1 O W) $$ [H1 Hx Hw Hi Hr Hs HO]
  · isplitl [H1]
    · iexact H1
    isplitl [Hx]
    · iexact Hx
    isplitl [Hw]
    · iexact Hw
    isplitl [Hi]
    · iexists fi; iexact Hi
    isplitl [Hr]
    · iexists fo; iexact Hr
    isplitl [Hs]
    · iexact Hs
    · iexact HO
  iapply (wp_wand _ _ _) $$ [Hmw Hgv]
  · iapply (gather_wp (F := F) d L g1 ix h q q O W) $$ [Hmw Hgv]
    isplitl [Hmw]
    · iexact Hmw
    · iexact Hgv
  iintro %a H
  ihave H := (left_of (F := F) d L ix h G q g1 (hG g1 hgood) O W fi fo) $$ H
  icases H with ⟨Ht, Hi, Hr, Hs, HO⟩
  isplitl [Ht]
  · iexact Ht
  isplitl [Hi Hr Hbufs]
  · isplitl [Hi]
    · iexact Hi
    isplitl [Hr]
    · iexact Hr
    · iexact Hbufs
  isplitl [Hs Hsems]
  · isplitl [Hs]
    · iexact Hs
    · iexact Hsems
  · iexact HO

end Task

end Cert.Proof.Emb

end
-- ==== Proof.Call.lean ====
/-
  The SparseCore call: what its handshakes carry, the launch's obligations for its tasks, and how the whole buffers
  are dealt to the 32 tasks and come back.
-/
module

public import proofs.«01_k».proof.Proof.Task

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.SparseCore.ProtocolKit (finFrom finUpTo bigSep_finFrom_succ bigSep_finFrom_zero bigSep_finFrom_self bigSep_finUpTo_succ bigSep_finUpTo_zero bigSep_finUpTo_self)
open Idealize.ShloMosaic.Rounds
open Idealize.ShloMosaic.Tactic

variable {F : FTy → Type}

local notation "𝕄" => MT nD τ sig (HIx 1) (Elt F) ℕ UU ℕ

section Call
variable (Good : Dev nD → (S503808x128.Idx → F .f32) → Prop) (ix : Dev nD → S204800.Idx → BitVec 32)
  (G : Dev nD → S204800x128.Idx → F .f32)

/-- Task `L`'s share of what all the tasks read. -/
abbrev shr (L : grid1.Coords) : PosShare TreeShare := part 5 fullShare (wid L)

theorem bigSep_stored {I : Type} (s : Finset I) (Φ : I → sProp 𝕄) (h : ∀ i, BI.Storable (upEmb : UEmb _ 𝕄) (Φ i)) :
    BI.Storable (upEmb : UEmb _ 𝕄) (bigSep s Φ) := inferInstance

theorem pts_stored (ℓ : Loc nD τ sig) (I : Finset (Idx ℓ)) (q : PosShare TreeShare) (f : Buf (Elt F) ℓ) :
    BI.Storable (upEmb : UEmb _ 𝕄) (ℓ ↦[I]{q} f) := inferInstance

instance goT_storable (d : Dev nD) (L : grid1.Coords) (q : PosShare TreeShare) :
    BI.Storable (upEmb : UEmb _ 𝕄) (goT (F := F) d L (Good d) (ix d) q) := by
  unfold goT winAny; infer_instance
instance tdT_storable (d : Dev nD) (L : grid1.Coords) : BI.Storable (upEmb : UEmb _ 𝕄) (tdT (F := F) d L (G d)) := by
  unfold tdT
  exact bigSep_stored _ _ fun k => pts_stored _ _ _ _

/-- A core's sixteen tasks' parts, going in and coming back. -/
def coreIn (d : Dev nD) (c : Fin 2) : sProp 𝕄 :=
  bigSep Finset.univ fun s : Fin 16 => goT (F := F) d (coordsV c s) (Good d) (ix d) (shr (coordsV c s))
def coreOut (d : Dev nD) (c : Fin 2) : sProp 𝕄 := bigSep Finset.univ fun s : Fin 16 => tdT (F := F) d (coordsV c s) (G d)

instance coreIn_storable (d : Dev nD) (c : Fin 2) : BI.Storable (upEmb : UEmb _ 𝕄) (coreIn (F := F) Good ix d c) := by
  unfold coreIn
  exact bigSep_stored _ _ fun s => goT_storable (F := F) Good ix d (coordsV c s) (shr (coordsV c s))
instance coreOut_storable (d : Dev nD) (c : Fin 2) : BI.Storable (upEmb : UEmb _ 𝕄) (coreOut (F := F) G d c) := by
  unfold coreOut
  exact bigSep_stored _ _ fun s => tdT_storable (F := F) G d (coordsV c s)

/-- The call hands each core its sixteen tasks' parts, and each task its own; the windows come back filled. -/
def P : (K (F := F)).Pay (nD := nD) (Val := Elt F) (Name := ℕ) (U := UU) where
  st := fun q d c => match q with | 0 => coreIn (F := F) Good ix d (Fin.cast nCore_zero c)
  dn := fun q d c => match q with | 0 => coreOut (F := F) G d (Fin.cast nCore_zero c)
  go := fun q d c i => match q with
    | 0 => goT (F := F) d (coordsV (Fin.cast nCore_zero c) (Fin.cast nSub_zero i)) (Good d) (ix d) (shr (coordsV (Fin.cast nCore_zero c) (Fin.cast nSub_zero i)))
  td := fun q d c i => match q with
    | 0 => tdT (F := F) d (coordsV (Fin.cast nCore_zero c) (Fin.cast nSub_zero i)) (G d)
  x := fun _ _ => iprop(emp)

instance P_storable : (P (F := F) Good ix G).IsStorable where
  st q d c := match q with | 0 => coreIn_storable Good ix d _
  dn q d c := match q with | 0 => coreOut_storable G d _
  go q d c i := match q with
    | 0 => goT_storable Good ix d _ _
  td q d c i := match q with
    | 0 => tdT_storable G d _

theorem P_st (d : Dev nD) (c : Fin ((K (F := F)).nCore 0)) : (P (F := F) Good ix G).st 0 d c = coreIn (F := F) Good ix d (Fin.cast nCore_zero c) := by
  unfold P; dsimp only
theorem P_dn (d : Dev nD) (c : Fin ((K (F := F)).nCore 0)) : (P (F := F) Good ix G).dn 0 d c = coreOut (F := F) G d (Fin.cast nCore_zero c) := by
  unfold P; dsimp only
theorem P_go (d : Dev nD) (c : Fin ((K (F := F)).nCore 0)) (i : Fin ((K (F := F)).nSub 0)) : (P (F := F) Good ix G).go 0 d c i
    = goT (F := F) d (coordsV (Fin.cast nCore_zero c) (Fin.cast nSub_zero i)) (Good d) (ix d) (shr (coordsV (Fin.cast nCore_zero c) (Fin.cast nSub_zero i))) := by
  unfold P; dsimp only
theorem P_td (d : Dev nD) (c : Fin ((K (F := F)).nCore 0)) (i : Fin ((K (F := F)).nSub 0)) : (P (F := F) Good ix G).td 0 d c i
    = tdT (F := F) d (coordsV (Fin.cast nCore_zero c) (Fin.cast nSub_zero i)) (G d) := by
  unfold P; dsimp only

variable [FloatOps F]

theorem defs₀_task (c : Fin τ.nSC) (s : Fin τ.nSub) :
    defs₀ (F := F) (.scVector c s) 1 ()
      = SparseCore.onTile hcore1 hsub1 (fun c s => cc1_sc_gather (coordsV c s)
          srcM (Memref.isWhole_whole _) idxM (Memref.isWhole_whole _) dstM (Memref.isWhole_whole _)
          ringI (Memref.isWhole_whole _) cc1_scoped1 ringO (Memref.isWhole_whole _) cc1_scoped3 cc1_scoped4) ⟨⟩ c s := rfl

omit [FloatOps F] in
/-- Only waits outside any call were recorded: in particular only such or this call's. -/
theorem task_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine BIClass.sep_mono .rfl (BIClass.sep_mono .rfl (BIClass.sep_mono .rfl ?_))
  iintro ⟨%W', %hW', HO⟩
  iexists W'
  isplitl []
  · ipureintro; exact fun p hp => (hW' p hp).elim .inl fun e => .inr (.inl e)
  · iexact HO

set_option maxHeartbeats 4000000 in
set_option maxRecDepth 16384 in
theorem tileObl (h : ∀ d, InRows (ix d)) (hG : ∀ d g1, Good d g1 → gath g1 (ix d) (h d) = G d) :
    (K (F := F)).TileObl (D (F := F)) 𝒱 (P (F := F) Good ix G) v₀ 0 := by
  intro d c i O W hO _ _
  simp only [show (P (F := F) Good ix G).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  rw [defs₀_task]; simp only [SparseCore.onTile, hci, and_self, ↓reduceDIte]
  exact (task_wp (F := F) d (coordsV ⟨_, hci.1⟩ ⟨_, hci.2⟩) (Good d) (ix d) (h d) (G d) _ (hG d) O W hO).trans
    (wp_mono frame _ _ fun _ => task_post)

omit [FloatOps F] in
theorem core_split (A B : sProp 𝕄) : A ⊢ |={Set.univ}=> iprop(A ∗ (B -∗ B)) := by
  iintro H; imodintro
  isplitl [H]
  · iexact H
  iintro H; iexact H

theorem vecSplit : (K (F := F)).VecSplit' (P (F := F) Good ix G) 0 := by
  intro d c
  simp only [P_st, P_dn, P_go, P_td]
  exact core_split _ _

end Call

/-! ## The whole buffers dealt out, and the filled windows joined -/

section Deal
variable (Good : Dev nD → (S503808x128.Idx → F .f32) → Prop) (ix : Dev nD → S204800.Idx → BitVec 32)
  (G : Dev nD → S204800x128.Idx → F .f32)

abbrev v1Loc (d : Dev nD) : Loc nD τ sig := (SparseCore.T d).loc main_v1
abbrev v10Loc (d : Dev nD) : Loc nD τ sig := (SparseCore.T d).loc main_v10
abbrev v11Loc (d : Dev nD) : Loc nD τ sig := (SparseCore.T d).loc main_v11

theorem bigSep_mono' {I : Type} (s : Finset I) {Φ Ψ : I → sProp 𝕄} (h : ∀ i ∈ s, Φ i ⊢ Ψ i) : bigSep s Φ ⊢ bigSep s Ψ :=
  Idealize.SL.BI.bigSep_mono h

/-- A family over the 32 tasks' numbers, by core and subcore. -/
theorem tasks_split (Φ : Fin 32 → sProp 𝕄) :
    bigSep Finset.univ Φ = bigSep Finset.univ fun c : Fin 2 => bigSep Finset.univ fun s : Fin 16 => Φ ⟨wid (coordsV c s), wid_lt _⟩ := by
  rw [bigSep_univ_equiv (finProdFinEquiv (m := 2) (n := 16)) Φ, bigSep_univ_prod]
  refine bigSep_congr fun c _ => bigSep_congr fun s _ => ?_
  exact congrArg Φ (Fin.ext (by simp [finProdFinEquiv, wid, coordsV]))
theorem windows_split (Φ : Fin 800 → sProp 𝕄) :
    bigSep Finset.univ Φ = bigSep Finset.univ fun c : Fin 2 => bigSep Finset.univ fun s : Fin 16 =>
      bigSep Finset.univ fun t : Fin 25 => Φ (wn (coordsV c s) t) := by
  rw [bigSep_univ_equiv (finProdFinEquiv (m := 32) (n := 25)) Φ, bigSep_univ_prod, tasks_split]
  refine bigSep_congr fun c _ => bigSep_congr fun s _ => bigSep_congr fun t _ => ?_
  exact congrArg Φ (Fin.ext (by simp [finProdFinEquiv, wn, wid, coordsV]; omega))

/-- A buffer read by every task, in their shares. -/
theorem shares_split (ℓ : Loc nD τ sig) (f : Buf (Elt F) ℓ) :
    (ℓ ↦{fullShare} f : sProp 𝕄) ⊢ bigSep Finset.univ fun c : Fin 2 => bigSep Finset.univ fun s : Fin 16 => ℓ ↦{shr (coordsV c s)} f := by
  refine (pointsTo_parts Finset.univ f 5 fullShare).trans (Entails.of_eq ?_)
  rw [← Ring.bigSep_fin_eq_range (2 ^ 5) (fun i : Fin (2 ^ 5) => (ℓ ↦{part 5 fullShare i.val} f : sProp 𝕄)) _ (fun _ _ => rfl)]
  exact tasks_split (F := F) (fun i : Fin 32 => (ℓ ↦{part 5 fullShare i.val} f : sProp 𝕄))

/-- The gathered array, window by window. -/
theorem v11_split (d : Dev nD) (f : S204800x128.Idx → F .f32) :
    (v11Loc d ↦{fullShare} f : sProp 𝕄) = bigSep Finset.univ fun c : Fin 2 => bigSep Finset.univ fun s : Fin 16 =>
      bigSep Finset.univ fun t : Fin 25 => v11Loc d ↦[winI (wn (coordsV c s) t)]{fullShare} f := by
  rw [← windows_split (F := F) (fun w => (v11Loc d ↦[winI w]{fullShare} f : sProp 𝕄)),
    ← pointsTo_biUnion Finset.univ (ℓ := v11Loc d) winI (fun a _ b _ => outW_disj a b), outW_cover]

theorem bigSep_cast {n k : ℕ} (e : n = k) (Φ : Fin k → sProp 𝕄) : bigSep Finset.univ (fun c : Fin n => Φ (Fin.cast e c)) = bigSep Finset.univ Φ := by
  subst e; rfl
theorem st_all (d : Dev nD) : (bigSep Finset.univ fun c : Fin ((K (F := F)).nCore 0) => (P (F := F) Good ix G).st 0 d c)
    = bigSep Finset.univ fun c : Fin 2 => coreIn (F := F) Good ix d c :=
  (bigSep_congr fun c _ => P_st Good ix G d c).trans (bigSep_cast (nCore_zero (F := F)) fun c : Fin 2 => coreIn (F := F) Good ix d c)
theorem dn_all (d : Dev nD) : (bigSep Finset.univ fun c : Fin ((K (F := F)).nCore 0) => (P (F := F) Good ix G).dn 0 d c)
    = bigSep Finset.univ fun c : Fin 2 => coreOut (F := F) G d c :=
  (bigSep_congr fun c _ => P_dn Good ix G d c).trans (bigSep_cast (nCore_zero (F := F)) fun c : Fin 2 => coreOut (F := F) G d c)

theorem deal (d : Dev nD) (f₁ : S503808x128.Idx → F .f32) (hf : Good d f₁) (f₃ : S204800x128.Idx → F .f32) :
    iprop((v1Loc d ↦{fullShare} f₁) ∗ (v10Loc d ↦{fullShare} ix d) ∗ (v11Loc d ↦{fullShare} f₃))
      ⊢ bigSep Finset.univ fun c : Fin ((K (F := F)).nCore 0) => (P (F := F) Good ix G).st 0 d c := by
  rw [v11_split, st_all]
  refine (BIClass.sep_mono (shares_split (v1Loc d) f₁) (BIClass.sep_mono (shares_split (v10Loc d) (ix d)) .rfl)).trans ?_
  rw [← bigSep_sep', ← bigSep_sep']
  refine bigSep_mono' _ fun c _ => ?_
  rw [← bigSep_sep', ← bigSep_sep']
  unfold coreIn
  refine bigSep_mono' _ fun s _ => ?_
  unfold goT
  refine BIClass.sep_mono ?_ ?_
  rotate_left
  · refine BIClass.sep_mono .rfl ?_
    refine bigSep_mono' _ fun t _ => ?_
    unfold winAny
    iintro H
    iexists f₃
    iexact H
  · iintro H
    iexists f₁
    isplitl []
    · ipureintro; exact hf
    · iexact H

theorem collect (d : Dev nD) :
    (bigSep Finset.univ fun c : Fin ((K (F := F)).nCore 0) => (P (F := F) Good ix G).dn 0 d c) ⊢ (v11Loc d ↦{fullShare} G d : sProp 𝕄) := by
  rw [v11_split, dn_all]
  refine bigSep_mono' _ fun c _ => ?_
  unfold coreOut
  refine bigSep_mono' _ fun s _ => ?_
  unfold tdT
  refine bigSep_mono' _ fun t _ => ?_
  iintro H; iexact H

end Deal

end Cert.Proof.Emb

end
-- ==== Proof.Stage.lean ====
/-
  The two grid calls' bodies: each reads its two staged blocks whole and stores one whole block.
-/
module

public import proofs.«01_k».proof.Proof.Call
public import proofs.«01_k».proof.Proof.Gen.KernelIdeal.Launch
public import proofs.«01_k».proof.Proof.Gen.KernelIdeal.Points
public import Idealize.ShloMosaic.Lib.Pipeline.ArrRel
public import Idealize.ShloMosaic.Lib.Pipeline.Regions

@[expose] public section

noncomputable section

namespace Cert.Proof.Emb

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Whole blocks -/

/-- A load of the whole block reads what the block holds. -/
theorem readAt_zero {κ : Kind} {cs : CoreSpace} {s : Shape} {e : EltTy} (M : Memref sig κ cs s e) {off : Fin s.rank → Nat}
    (h : off = fun _ => 0) (inb : ∀ a, off a + s.size a ≤ s.size a) (f : M.view.ty.Contents (Elt F)) :
    M.view.readAt (Elt F) (Rect.unit off s.size inb).toLoadRect f = M.view.read (Elt F) f := by
  subst h
  funext x
  show M.view.read (Elt F) f ((Rect.whole s).emb x) = M.view.read (Elt F) f x
  rw [Rect.emb_whole_apply]

/-- A store of the whole block leaves the block at what was stored. -/
theorem read_store_zero {κ : Kind} {cs : CoreSpace} {s : Shape} {e : EltTy} (M : Memref sig κ cs s e) {off : Fin s.rank → Nat}
    (h : off = fun _ => 0) (inb : ∀ a, off a + s.size a ≤ s.size a) (f : M.view.ty.Contents (Elt F)) (w : s.Idx → Elt F e) :
    M.view.read (Elt F) ((M.access (Rect.unit off s.size inb)).write (Elt F) f w Finset.univ) = w := by
  subst h
  funext x
  have e := congrFun (View.read_write_univ (v := M.access (Rect.whole s)) f w) x
  refine Eq.trans ?_ e
  show M.view.read (Elt F) _ x = M.view.read (Elt F) _ ((Rect.whole s).emb x)
  rw [Rect.emb_whole_apply]; rfl

variable [FloatOps F]

theorem hz2 : (![0, 0] : Fin 2 → Nat) = fun _ => 0 := by funext a; fin_cases a <;> rfl
theorem hz1 : (![0] : Fin 1 → Nat) = fun _ => 0 := by funext a; fin_cases a; rfl

/-- The packing body: from two staged blocks it leaves their transposes side by side. -/
theorem packBody (c : Dev nD) (i : grid0.Coords) (M1 : Memref sig .tc .vmem S64x4096 .f32) (h1 : M1.IsWhole) (M2 : Memref sig .tc .vmem S64x4096 .f32) (h2 : M2.IsWhole)
    (M3 : Memref sig .tc .vmem S4096x128 .f32) (h3 : M3.IsWhole) (X1 X2 : S64x4096.Idx → F .f32) (X3 : S4096x128.Idx → F .f32)
    (Q : PUnit → sProp 𝕄) :
    iprop(owns (c : Thread nD τ) M1 fullShare X1 ∗ owns (c : Thread nD τ) M2 fullShare X2 ∗ owns (c : Thread nD τ) M3 fullShare X3
        ∗ (iprop(owns (c : Thread nD τ) M1 fullShare X1 ∗ owns (c : Thread nD τ) M2 fullShare X2 ∗ owns (c : Thread nD τ) M3 fullShare (k0_pay1 X1 X2)) -∗ Q ⟨⟩))
      ⊢ wp frame (wpE (defs₀ (F := F)) 𝒱₀ (c : Thread nD τ) none) Set.univ (cc0_body i M1 h1 M2 h2 M3 h3) Q := by
  rw [cc0_body_eq_skeleton]
  unfold cc0_body_skel owns
  iintro ⟨⟨%f1, %e1, H1⟩, ⟨%f2, %e2, H2⟩, ⟨%f3, %e3, H3⟩, Hk⟩
  iapply (wp_load 𝒱₀ (c : Thread nD τ) none Set.univ (S := M1.view.set) (View.setOn_subset_set _ _)) $$ H1
  iintro H1
  iapply (wp_load 𝒱₀ (c : Thread nD τ) none Set.univ (S := M2.view.set) (View.setOn_subset_set _ _)) $$ H2
  iintro H2
  iapply (wp_load 𝒱₀ (c : Thread nD τ) none Set.univ (S := M3.view.set) (View.setOn_subset_set _ _)) $$ H3
  iintro H3
  iapply (wp_store 𝒱₀ (c : Thread nD τ) none Set.univ (m := M3) (r := Rect.unit (s := S4096x128) ![0, 0] S4096x128.size inb_S4096x128_S4096x128_0_0)
      (S := M3.view.set) (f := f3) ((View.setOn_subset_set _ _).trans (View.set_slice_subset _ _))) $$ H3
  iintro H3
  rw [show ((Prog.ret PUnit.unit : Prog (TpuEff nD τ sig (Elt F) Λ₀ .tc) PUnit).bind fun _ => (Pure.pure PUnit.unit : Prog (TpuEff nD τ sig (Elt F) Λ₀ .tc) PUnit)) = Prog.ret PUnit.unit from rfl, wp_ret]
  imodintro
  iapply Hk
  isplitl [H1]; · iexists f1; isplitl []; · ipureintro; exact e1
                  iexact H1
  isplitl [H2]; · iexists f2; isplitl []; · ipureintro; exact e2
                  iexact H2
  iexists _
  isplitl []; swap; · iexact H3
  ipureintro
  rw [read_store_zero M3 hz2, readAt_zero M1 hz2, readAt_zero M2 hz2, e1, e2]

/-- The selecting body: from a block of gathered rows and its flags it leaves each row's half. -/
theorem selBody (c : Dev nD) (i : grid2.Coords) (M1 : Memref sig .tc .vmem S2048x128 .f32) (h1 : M1.IsWhole) (M2 : Memref sig .tc .vmem S2048 .i32) (h2 : M2.IsWhole)
    (M3 : Memref sig .tc .vmem S2048x64 .f32) (h3 : M3.IsWhole) (X1 : S2048x128.Idx → F .f32) (X2 : S2048.Idx → BitVec 32) (X3 : S2048x64.Idx → F .f32)
    (Q : PUnit → sProp 𝕄) :
    iprop(owns (c : Thread nD τ) M1 fullShare X1 ∗ owns (c : Thread nD τ) M2 fullShare X2 ∗ owns (c : Thread nD τ) M3 fullShare X3
        ∗ (iprop(owns (c : Thread nD τ) M1 fullShare X1 ∗ owns (c : Thread nD τ) M2 fullShare X2 ∗ owns (c : Thread nD τ) M3 fullShare (k2_pay1 X1 X2)) -∗ Q ⟨⟩))
      ⊢ wp frame (wpE (defs₀ (F := F)) 𝒱₀ (c : Thread nD τ) none) Set.univ (cc2_body i M1 h1 M2 h2 M3 h3) Q := by
  rw [cc2_body_eq_skeleton]
  unfold cc2_body_skel owns
  iintro ⟨⟨%f1, %e1, H1⟩, ⟨%f2, %e2, H2⟩, ⟨%f3, %e3, H3⟩, Hk⟩
  iapply (wp_load 𝒱₀ (c : Thread nD τ) none Set.univ (S := M1.view.set) (View.setOn_subset_set _ _)) $$ H1
  iintro H1
  iapply (wp_load 𝒱₀ (c : Thread nD τ) none Set.univ (S := M2.view.set) (View.setOn_subset_set _ _)) $$ H2
  iintro H2
  iapply (wp_load 𝒱₀ (c : Thread nD τ) none Set.univ (S := M3.view.set) (View.setOn_subset_set _ _)) $$ H3
  iintro H3
  iapply (wp_store 𝒱₀ (c : Thread nD τ) none Set.univ (m := M3) (r := Rect.unit (s := S2048x64) ![0, 0] S2048x64.size inb_S2048x64_S2048x64_0_0)
      (S := M3.view.set) (f := f3) ((View.setOn_subset_set _ _).trans (View.set_slice_subset _ _))) $$ H3
  iintro H3
  rw [show ((Prog.ret PUnit.unit : Prog (TpuEff nD τ sig (Elt F) Λ₀ .tc) PUnit).bind fun _ => (Pure.pure PUnit.unit : Prog (TpuEff nD τ sig (Elt F) Λ₀ .tc) PUnit)) = Prog.ret PUnit.unit from rfl, wp_ret]
  imodintro
  iapply Hk
  isplitl [H1]; · iexists f1; isplitl []; · ipureintro; exact e1
                  iexact H1
  isplitl [H2]; · iexists f2; isplitl []; · ipureintro; exact e2
                  iexact H2
  iexists _
  isplitl []; swap; · iexact H3
  ipureintro
  rw [read_store_zero M3 hz2, readAt_zero M1 hz2, readAt_zero M2 hz1, e1, e2]

end Cert.Proof.Emb

end
-- ==== Proof.Vals.lean ====
/-
  What the two grid calls' bodies compute, element by element, and what their windows' blocks hold.
-/
module

public import proofs.«01_k».proof.Proof.Stage
public import Idealize.ShloMosaic.Lib.Pipeline.ValueKit.Geometry
public import Idealize.ShloMosaic.Lib.Pipeline.ClipFacts

@[expose] public section

noncomputable section

namespace Cert.Proof.Emb

open Cert.KernelIdeal Cert.KernelIdeal.Gen
open Idealize.ShloMosaic
open Idealize.ShloMosaic.TcCoe
open Idealize.ShloMosaic.SparseCore (S V T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The bodies' values -/

/-- An index of a block from its coordinates. -/
def ixH (a : Fin 4096) (b : Fin 64) : S4096x64.Idx := fun | 0 => a | 1 => b | ⟨_ + 2, h⟩ => absurd h (Nat.not_lt.2 (Nat.le_add_left _ _))
def ixO (a : Fin 2048) : S2048x1.Idx := fun | 0 => a | 1 => (0 : Fin 1) | ⟨_ + 2, h⟩ => absurd h (Nat.not_lt.2 (Nat.le_add_left _ _))

section Pay
variable [FloatOps F]

/-- The left half of a packed row is a column of the first block, -/
theorem pay0_left (X1 X2 : S64x4096.Idx → F .f32) (j : S4096x128.Idx) (b : S64x4096.Idx) (h0 : (b 0).val = (j 1).val) (h1 : (b 1).val = (j 0).val) :
    k0_pay1 X1 X2 j = X1 b := by
  have hb : (b 0).val < 64 := (b 0).isLt
  unfold k0_pay1
  dsimp only
  rw [shapeCast_self, shapeCast_self]
  refine (concatenate_pair_apply_left (s₁ := S4096x64) (s₂ := S4096x64) (t := S4096x128) 1 _ _ _ j rfl (ixH ⟨(j 0).val, (j 0).isLt⟩ ⟨(j 1).val, by rw [← h0]; exact hb⟩) ?_).trans ?_
  · intro a; match a with
    | 0 => rfl
    | 1 => rfl
  · refine transpose_apply _ _ _ _ b ?_
    intro a; match a with
    | 0 => exact h1
    | 1 => exact h0

/-- and the right half one of the second. -/
theorem pay0_right (X1 X2 : S64x4096.Idx → F .f32) (j : S4096x128.Idx) (b : S64x4096.Idx) (h0 : 64 + (b 0).val = (j 1).val) (h1 : (b 1).val = (j 0).val) :
    k0_pay1 X1 X2 j = X2 b := by
  have hb : (b 0).val < 64 := (b 0).isLt
  unfold k0_pay1
  dsimp only
  rw [shapeCast_self, shapeCast_self]
  refine (concatenate_pair_apply_right (s₁ := S4096x64) (s₂ := S4096x64) (t := S4096x128) 1 _ _ _ j rfl rfl (ixH ⟨(j 0).val, (j 0).isLt⟩ ⟨(b 0).val, hb⟩) ?_ ?_).trans ?_
  · intro a ha; match a with
    | 0 => rfl
    | 1 => exact absurd rfl ha
  · show (b 0).val + 64 = (j 1).val; omega
  · refine transpose_apply _ _ _ _ b ?_
    intro a; match a with
    | 0 => exact h1
    | 1 => rfl

/-- A selected row is its gathered row's right half where its flag is set, its left half where it is clear. -/
theorem pay2_apply (X1 : S2048x128.Idx → F .f32) (X2 : S2048.Idx → BitVec 32) (j : S2048x64.Idx) (b : S2048x128.Idx) (w : S2048.Idx)
    (hw : (w 0).val = (j 0).val) (h0 : (b 0).val = (j 0).val)
    (h1 : (b 1).val = (if X2 w = 0#32 then 0 else 64) + (j 1).val) : k2_pay1 X1 X2 j = X1 b := by
  unfold k2_pay1
  rw [shapeCast_self, shapeCast_self, shapeCast_self]
  have hm : broadcastTo S2048x64 (cmpi .ne (shapeCast S2048x1 X2 shapeCasts_S2048_S2048x1) (broadcast S2048x1 0#32)) broadcasts_S2048x1_S2048x64 j
      = IntOp.cmpi .ne (X2 w) 0#32 := by
    refine (broadcastTo_apply _ _ j (ixO ⟨(j 0).val, (j 0).isLt⟩) ?_).trans ?_
    · intro a; match a with
      | 0 => rfl
      | 1 => rfl
    · show IntOp.cmpi .ne (shapeCast S2048x1 X2 shapeCasts_S2048_S2048x1 _) 0#32 = _
      rw [shapeCast_apply X2 shapeCasts_S2048_S2048x1 _ w (by
        rw [Shape.rowMajor_val_one, Shape.rowMajor_val_two]; show (w 0).val = (j 0).val * 1 + 0; omega)]
  show (if broadcastTo S2048x64 (cmpi .ne (shapeCast S2048x1 X2 shapeCasts_S2048_S2048x1) (broadcast S2048x1 0#32)) broadcasts_S2048x1_S2048x64 j = 1#1 then
    extractStridedSlice _ _ X1 _ j else extractStridedSlice _ _ X1 _ j) = _
  rw [hm]
  by_cases hz : X2 w = 0#32
  · rw [if_pos hz] at h1
    rw [if_neg (by rw [hz]; decide)]
    refine extractStridedSlice_apply _ _ _ _ b ?_
    intro a; match a with
    | 0 => show (b 0).val = 0 + (j 0).val; omega
    | 1 => show (b 1).val = 0 + (j 1).val; omega
  · rw [if_neg hz] at h1
    rw [if_pos (by show BitVec.ofBool _ = 1#1; rw [show (X2 w != 0#32) = true from bne_iff_ne.2 hz]; rfl)]
    refine extractStridedSlice_apply _ _ _ _ b ?_
    intro a; match a with
    | 0 => show (b 0).val = 0 + (j 0).val; omega
    | 1 => show (b 1).val = 64 + (j 1).val; omega

end Pay

/-! ## The windows' blocks -/

/-- A coordinate of a block that lies inside the array is among those moved. -/
theorem lt_extent {ix k d j : ℕ} (h : ix * k + j < d) (hj : j < k) : j < (Pipeline.Clip.of ix k d).extent k := by
  unfold Pipeline.Clip.of
  split
  · exact hj
  · show j < d - ix * k; omega

theorem ix0_0 : ∀ t : Fin grid0.N, cc0_transform_0 (grid0.coords t) 0 = 0 ∧ cc0_transform_0 (grid0.coords t) 1 = t.val := by decide +kernel
theorem ix0_1 : ∀ t : Fin grid0.N, cc0_transform_1 (grid0.coords t) 0 = 0 ∧ cc0_transform_1 (grid0.coords t) 1 = t.val + 122 := by decide +kernel
theorem ix0_2 : ∀ t : Fin grid0.N, cc0_transform_2 (grid0.coords t) 0 = t.val ∧ cc0_transform_2 (grid0.coords t) 1 = 0 := by decide +kernel
theorem ix2_0 : ∀ t : Fin grid2.N, cc2_transform_0 (grid2.coords t) 0 = t.val ∧ cc2_transform_0 (grid2.coords t) 1 = 0 := by decide +kernel
theorem ix2_1 : ∀ t : Fin grid2.N, cc2_transform_1 (grid2.coords t) 0 = t.val := by decide +kernel
theorem ix2_2 : ∀ t : Fin grid2.N, cc2_transform_2 (grid2.coords t) 0 = t.val ∧ cc2_transform_2 (grid2.coords t) 1 = 0 := by decide +kernel

/-- What the first grid call's first window's block `t` holds: columns `4096 t …` of the transposed table, those that exist. -/
theorem fill0_0 (vt : S64x1000000.Idx → F .f32) (t : Fin grid0.N) (d : S64x4096.Idx → F .f32) (b : S64x4096.Idx) (k : S64x1000000.Idx)
    (h0 : (k 0).val = (b 0).val) (h1 : (k 1).val = 4096 * t.val + (b 1).val) :
    win0_0.fill (grid0.coords t) d ((win0_0.blk t).view.read (Elt F) vt) b = vt k := by
  have hk : (k 1).val < 1000000 := (k 1).isLt
  have hb0 : (b 0).val < 64 := (b 0).isLt
  have hb1 : (b 1).val < 4096 := (b 1).isLt
  obtain ⟨i0, i1⟩ := ix0_0 t
  have hm : win0_0.moved (grid0.coords t) b = true := by
    refine (win0_0.moved_iff _ _).2 fun a => ?_
    match a with
    | 0 => exact lt_extent (ix := cc0_transform_0 (grid0.coords t) 0) (k := 64) (d := 64) (by rw [i0]; omega) hb0
    | 1 => exact lt_extent (ix := cc0_transform_0 (grid0.coords t) 1) (k := 4096) (d := 1000000) (by rw [i1]; omega) hb1
  unfold Pipeline.Window.fill
  rw [dif_pos hm]
  show vt ((win0_0.rect t).emb _) = vt k
  congr 1
  refine Shape.idx_ext₂ ?_ ?_
  · rw [Pipeline.Window.rect_emb_val win0_0 t _ 0]
    show cc0_transform_0 (grid0.coords t) 0 * 64 + (b 0).val = _
    rw [i0]; omega
  · rw [Pipeline.Window.rect_emb_val win0_0 t _ 1]
    show cc0_transform_0 (grid0.coords t) 1 * 4096 + (b 1).val = _
    rw [i1]; omega

/-- What its second window's block holds: the columns 122 blocks further on. -/
theorem fill0_1 (vt : S64x1000000.Idx → F .f32) (t : Fin grid0.N) (d : S64x4096.Idx → F .f32) (b : S64x4096.Idx) (k : S64x1000000.Idx)
    (h0 : (k 0).val = (b 0).val) (h1 : (k 1).val = 4096 * (t.val + 122) + (b 1).val) :
    win0_1.fill (grid0.coords t) d ((win0_1.blk t).view.read (Elt F) vt) b = vt k := by
  have hk : (k 1).val < 1000000 := (k 1).isLt
  have hb0 : (b 0).val < 64 := (b 0).isLt
  have hb1 : (b 1).val < 4096 := (b 1).isLt
  obtain ⟨i0, i1⟩ := ix0_1 t
  have hm : win0_1.moved (grid0.coords t) b = true := by
    refine (win0_1.moved_iff _ _).2 fun a => ?_
    match a with
    | 0 => exact lt_extent (ix := cc0_transform_1 (grid0.coords t) 0) (k := 64) (d := 64) (by rw [i0]; omega) hb0
    | 1 => exact lt_extent (ix := cc0_transform_1 (grid0.coords t) 1) (k := 4096) (d := 1000000) (by rw [i1]; omega) hb1
  unfold Pipeline.Window.fill
  rw [dif_pos hm]
  show vt ((win0_1.rect t).emb _) = vt k
  congr 1
  refine Shape.idx_ext₂ ?_ ?_
  · rw [Pipeline.Window.rect_emb_val win0_1 t _ 0]
    show cc0_transform_1 (grid0.coords t) 0 * 64 + (b 0).val = _
    rw [i0]; omega
  · rw [Pipeline.Window.rect_emb_val win0_1 t _ 1]
    show cc0_transform_1 (grid0.coords t) 1 * 4096 + (b 1).val = _
    rw [i1]; omega

/-- What the last grid call's first window's block `t` holds: rows `2048 t …` of the gathered array, -/
theorem fill2_0 (g : S204800x128.Idx → F .f32) (t : Fin grid2.N) (d : S2048x128.Idx → F .f32) (b : S2048x128.Idx) (k : S204800x128.Idx)
    (h0 : (k 0).val = 2048 * t.val + (b 0).val) (h1 : (k 1).val = (b 1).val) :
    win2_0.fill (grid2.coords t) d ((win2_0.blk t).view.read (Elt F) g) b = g k := by
  obtain ⟨i0, i1⟩ := ix2_0 t
  have hm : win2_0.moved (grid2.coords t) b = true := (win2_0.moved_iff _ _).2 fun a => (b a).isLt
  unfold Pipeline.Window.fill
  rw [dif_pos hm]
  show g ((win2_0.rect t).emb _) = g k
  congr 1
  refine Shape.idx_ext₂ ?_ ?_
  · rw [Pipeline.Window.rect_emb_val win2_0 t _ 0]
    show cc2_transform_0 (grid2.coords t) 0 * 2048 + (b 0).val = _
    rw [i0]; omega
  · rw [Pipeline.Window.rect_emb_val win2_0 t _ 1]
    show cc2_transform_0 (grid2.coords t) 1 * 128 + (b 1).val = _
    rw [i1]; omega

/-- and its second window's: entries `2048 t …` of the flags. -/
theorem fill2_1 (g : S204800.Idx → BitVec 32) (t : Fin grid2.N) (d : S2048.Idx → BitVec 32) (b : S2048.Idx) (k : S204800.Idx)
    (h0 : (k 0).val = 2048 * t.val + (b 0).val) :
    win2_1.fill (grid2.coords t) d ((win2_1.blk t).view.read (Elt F) g) b = g k := by
  have i0 := ix2_1 t
  have hm : win2_1.moved (grid2.coords t) b = true := (win2_1.moved_iff _ _).2 fun a => (b a).isLt
  unfold Pipeline.Window.fill
  rw [dif_pos hm]
  show g ((win2_1.rect t).emb _) = g k
  congr 1
  funext a
  match a with
  | 0 =>
    refine Fin.ext ?_
    rw [Pipeline.Window.rect_emb_val win2_1 t _ 0]
    show cc2_transform_1 (grid2.coords t) 0 * 2048 + (b 0).val = _
    rw [i0]; omega

end Cert.Proof.Emb

end
-- ==== Proof.Pack.lean ====
/-
  The two grid calls: their proof data, their bodies' obligations, and what they leave in their results.
-/
module

public import proofs.«01_k».proof.Proof.Vals

@[expose] public section

noncomputable section

namespace Cert.Proof.Emb

open Cert.KernelIdeal Cert.KernelIdeal.Gen
open Idealize.ShloMosaic
open Idealize.ShloMosaic.TcCoe
open Idealize.ShloMosaic.SparseCore (S V T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The grid calls' proof data -/

/-- What the first grid call must leave of the packed table for `vt` the transposed one: its row `r` carries column `r` on the
    left and column `r + 499712` on the right, where these exist. -/
def Packed (vt : S64x1000000.Idx → F .f32) (f : S503808x128.Idx → F .f32) : Prop :=
  ∀ (j : S503808x128.Idx) (k : S64x1000000.Idx),
    (((j 1).val = (k 0).val ∧ (k 1).val = (j 0).val) ∨ ((j 1).val = 64 + (k 0).val ∧ (k 1).val = (j 0).val + 499712)) → f j = vt k

/-- The same of one block. -/
def PackedAt (vt : S64x1000000.Idx → F .f32) (t : ℕ) (X : S4096x128.Idx → F .f32) : Prop :=
  ∀ (j : S4096x128.Idx) (k : S64x1000000.Idx),
    (((j 1).val = (k 0).val ∧ (k 1).val = 4096 * t + (j 0).val) ∨ ((j 1).val = 64 + (k 0).val ∧ (k 1).val = 4096 * (t + 122) + (j 0).val)) → X j = vt k

/-- An index of the gathered array, of a row of flags, of a block, from coordinates. -/
def ixG (a : Fin 204800) (b : Fin 128) : S204800x128.Idx := fun | 0 => a | 1 => b | ⟨_ + 2, h⟩ => absurd h (Nat.not_lt.2 (Nat.le_add_left _ _))
def ixF (a : Fin 204800) : S204800.Idx := fun | 0 => a | ⟨_ + 1, h⟩ => absurd h (Nat.not_lt.2 (Nat.le_add_left _ _))
def ixB (a : Fin 64) (b : Fin 4096) : S64x4096.Idx := fun | 0 => a | 1 => b | ⟨_ + 2, h⟩ => absurd h (Nat.not_lt.2 (Nat.le_add_left _ _))
def ixR (a : Fin 2048) (b : Fin 128) : S2048x128.Idx := fun | 0 => a | 1 => b | ⟨_ + 2, h⟩ => absurd h (Nat.not_lt.2 (Nat.le_add_left _ _))
def ixL (a : Fin 2048) : S2048.Idx := fun | 0 => a | ⟨_ + 1, h⟩ => absurd h (Nat.not_lt.2 (Nat.le_add_left _ _))

theorem half_lt (p : Prop) [Decidable p] {n : ℕ} (h : n < 64) : (if p then 0 else 64) + n < 128 := by split <;> omega

/-- What the last grid call leaves: of each gathered row the half its flag says. -/
def sel (g : S204800x128.Idx → F .f32) (fl : S204800.Idx → BitVec 32) : S204800x64.Idx → F .f32 := fun j =>
  g (ixG ⟨(j 0).val, (j 0).isLt⟩ ⟨(if fl (ixF ⟨(j 0).val, (j 0).isLt⟩) = 0#32 then 0 else 64) + (j 1).val, half_lt _ (j 1).isLt⟩)

/-- Its block `t`. -/
def SelAt (g : S204800x128.Idx → F .f32) (fl : S204800.Idx → BitVec 32) (t : ℕ) (X : S2048x64.Idx → F .f32) : Prop :=
  ∀ (j : S2048x64.Idx) (k : S204800x64.Idx), (k 0).val = 2048 * t + (j 0).val → (k 1).val = (j 1).val → X j = sel g fl k

section Dats

variable (vt : Dev nD → S64x1000000.Idx → F .f32) (f1 : Dev nD → S503808x128.Idx → F .f32) (g : Dev nD → S204800x128.Idx → F .f32)
  (fl : Dev nD → S204800.Idx → BitVec 32) (f12 : Dev nD → S204800x64.Idx → F .f32)

/-- The first call's: the transposed table read through two windows, at half a share each; the packed one written. -/
def rd0 (c : Dev nD) : RDat τ (Elt F) (HIx 1) ℕ UU ℕ (cfg0) c where
  A := fun | 0 => vt c | 1 => vt c | 2 => f1 c
  after := fun | 0 => fun _ Y X => X = Y | 1 => fun _ Y X => X = Y | 2 => fun t _ X => PackedAt (vt c) t.val X
  Φ _ := Pipeline.scopedRest spec0 c
  q := fun | 0 => fullShare.left | 1 => fullShare.right | 2 => fullShare
  owed _ := (K (F := F)).Otc c 0
  recorded _ := {p | (K (F := F)).lev (SparseCore.T c, p.1) p.2 ≤ 8 * 0}

/-- The last call's: the gathered rows and the flags read, the selected halves written. -/
def rd1 (c : Dev nD) : RDat τ (Elt F) (HIx 1) ℕ UU ℕ (cfg2) c where
  A := fun | 0 => g c | 1 => fl c | 2 => f12 c
  after := fun | 0 => fun _ Y X => X = Y | 1 => fun _ Y X => X = Y | 2 => fun t _ X => SelAt (g c) (fl c) t.val X
  Φ _ := Pipeline.scopedRest spec2 c
  q _ := fullShare
  owed _ := (K (F := F)).Otc c 1
  recorded _ := {p | (K (F := F)).lev (SparseCore.T c, p.1) p.2 ≤ 8 * 1}

/-- No call prefetches a table. -/
def adm : (p : Fin 2) → (pcfgs (F := F) p).Adm := fun p => (cfgs p).toPCfg_adm

/-- Both. -/
def rds : (p : Fin 2) → (c : Dev nD) → RDat τ (Elt F) (HIx 1) ℕ UU ℕ (Pipeline.pin (pcfgs (F := F)) adm p) c
  | 0 => fun c => rd0 vt f1 c
  | 1 => fun c => rd1 g fl f12 c

/-! ## The bodies' obligations -/

theorem packedAt_pay (vt : S64x1000000.Idx → F .f32) (t : Fin grid0.N) (d0 d1 : S64x4096.Idx → F .f32) :
    PackedAt vt t.val (k0_pay1 (win0_0.fill (grid0.coords t) d0 ((win0_0.blk t).view.read (Elt F) vt))
      (win0_1.fill (grid0.coords t) d1 ((win0_1.blk t).view.read (Elt F) vt))) := by
  intro j k h
  have hk : (k 0).val < 64 := (k 0).isLt
  have hj : (j 0).val < 4096 := (j 0).isLt
  rcases h with ⟨h0, h1⟩ | ⟨h0, h1⟩
  · exact (pay0_left _ _ j (ixB ⟨(k 0).val, hk⟩ ⟨(j 0).val, hj⟩) h0.symm rfl).trans (fill0_0 vt t d0 _ k rfl h1)
  · exact (pay0_right _ _ j (ixB ⟨(k 0).val, hk⟩ ⟨(j 0).val, hj⟩) h0.symm rfl).trans (fill0_1 vt t d1 _ k rfl h1)

theorem selAt_pay (g : S204800x128.Idx → F .f32) (fl : S204800.Idx → BitVec 32) (t : Fin grid2.N) (d0 : S2048x128.Idx → F .f32) (d1 : S2048.Idx → BitVec 32) :
    SelAt g fl t.val (k2_pay1 (win2_0.fill (grid2.coords t) d0 ((win2_0.blk t).view.read (Elt F) g))
      (win2_1.fill (grid2.coords t) d1 ((win2_1.blk t).view.read (Elt F) fl))) := by
  intro j k h0 h1
  have hj : (j 0).val < 2048 := (j 0).isLt
  have hj1 : (j 1).val < 64 := (j 1).isLt
  have hw := fill2_1 (F := F) fl t d1 (ixL ⟨(j 0).val, hj⟩) (ixF ⟨(k 0).val, (k 0).isLt⟩) h0
  refine (pay2_apply _ _ j (ixR ⟨(j 0).val, hj⟩ ⟨_, half_lt (fl (ixF ⟨(k 0).val, (k 0).isLt⟩) = 0#32) hj1⟩) (ixL ⟨(j 0).val, hj⟩) rfl rfl ?_).trans ?_
  · rw [hw]; rfl
  · refine fill2_0 g t d0 _ _ h0 ?_
    show _ + (k 1).val = _ + (j 1).val
    rw [h1]

theorem body0 (c : Dev nD) : (rd0 vt f1 c).BodyObligation (defs₀ (F := F)) 𝒱₀ none Set.univ := by
  intro t Y hY
  obtain ⟨d0, e0⟩ := ((rd0 vt f1 c).finds_of_fetch (fetch0_0 t) (Y 0)).1 (hY 0)
  obtain ⟨d1, e1⟩ := ((rd0 vt f1 c).finds_of_fetch (fetch0_1 t) (Y 1)).1 (hY 1)
  rw [bigSep_W0, bigSep_W0]
  rw [show (rd0 vt f1 c).Φ t.castSucc = (rd0 vt f1 c).Φ t.succ from rfl, show (rd0 vt f1 c).owesAt none t.castSucc = (rd0 vt f1 c).owesAt none t.succ from rfl]
  iintro ⟨HΦ, HO, H0, H1, H2⟩
  iapply (packBody c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (Y 0) (Y 1) (Y 2) _)
  isplitl [H0]; · iexact H0
  isplitl [H1]; · iexact H1
  isplitl [H2]; · iexact H2
  iintro ⟨H0, H1, H2⟩
  isplitl [HΦ]; · iexact HΦ
  isplitl [HO]; · iexact HO
  isplitl [H0]
  · iexists (Y 0); isplitl []; · ipureintro; exact rfl
    iexact H0
  isplitl [H1]
  · iexists (Y 1); isplitl []; · ipureintro; exact rfl
    iexact H1
  iexists (k0_pay1 (Y 0) (Y 1)); isplitl []
  · ipureintro
    show PackedAt (vt c) t.val _
    rw [e0, e1]
    exact packedAt_pay (vt c) t d0 d1
  iexact H2

theorem body1 (c : Dev nD) : (rd1 g fl f12 c).BodyObligation (defs₀ (F := F)) 𝒱₀ none Set.univ := by
  intro t Y hY
  obtain ⟨d0, e0⟩ := ((rd1 g fl f12 c).finds_of_fetch (fetch2_0 t) (Y 0)).1 (hY 0)
  obtain ⟨d1, e1⟩ := ((rd1 g fl f12 c).finds_of_fetch (fetch2_1 t) (Y 1)).1 (hY 1)
  rw [bigSep_W2, bigSep_W2]
  rw [show (rd1 g fl f12 c).Φ t.castSucc = (rd1 g fl f12 c).Φ t.succ from rfl, show (rd1 g fl f12 c).owesAt none t.castSucc = (rd1 g fl f12 c).owesAt none t.succ from rfl]
  iintro ⟨HΦ, HO, H0, H1, H2⟩
  iapply (selBody c (grid2.coords t) (win2_0.stage (cfg2.slots t 0)) (hstage2_0 ((cfg2.slots t 0).cast nbuf2_0)) (win2_1.stage (cfg2.slots t 1)) (hstage2_1 ((cfg2.slots t 1).cast nbuf2_1))
    (win2_2.stage (cfg2.slots t 2)) (hstage2_2 ((cfg2.slots t 2).cast nbuf2_2)) (Y 0) (Y 1) (Y 2) _)
  isplitl [H0]; · iexact H0
  isplitl [H1]; · iexact H1
  isplitl [H2]; · iexact H2
  iintro ⟨H0, H1, H2⟩
  isplitl [HΦ]; · iexact HΦ
  isplitl [HO]; · iexact HO
  isplitl [H0]
  · iexists (Y 0); isplitl []; · ipureintro; exact rfl
    iexact H0
  isplitl [H1]
  · iexists (Y 1); isplitl []; · ipureintro; exact rfl
    iexact H1
  iexists (k2_pay1 (Y 0) (Y 1)); isplitl []
  · ipureintro
    show SelAt (g c) (fl c) t.val _
    rw [e0, e1]
    exact selAt_pay (g c) (fl c) t d0 d1
  iexact H2

/-! ## What the arrays end at -/

theorem covers0 : (cfg0.win (2 : Fin 3)).Covers := by decide +kernel
theorem covers2 : (cfg2.win (2 : Fin 3)).Covers := by decide +kernel

theorem arr0 [∀ e, Nonempty (Elt F e)] (c : Dev nD) (G : S503808x128.Idx → F .f32) (h : (rd0 vt f1 c).ArrAt 2 cfg0.N G) : Packed (vt c) G := by
  obtain ⟨X, hX, hA⟩ := h.exists_exact
  let aft : (w' : Fin cfg0.W) → Fin cfg0.N → (cfg0.win w').block.Idx → Elt F (cfg0.win w').elt := fun w u => match w with | 2 => X u | 0 => fun _ => Classical.arbitrary _ | 1 => fun _ => Classical.arbitrary _
  have hG := hA aft (fun _ _ _ => rfl)
  intro j
  rw [hG]
  refine Pipeline.Dat.arrAt_forall_of_covers (cfg := cfg0) (c := c) ((rd0 vt f1 c).withAfter aft) (2 : Fin 3)
    (fun j v => ∀ k : S64x1000000.Idx, (((j 1).val = (k 0).val ∧ (k 1).val = (j 0).val) ∨ ((j 1).val = 64 + (k 0).val ∧ (k 1).val = (j 0).val + 499712)) → v = vt c k)
    covers0 ?_ j (Memref.isWhole_whole _)
  intro t ht y k hk
  obtain ⟨Y, -, hP⟩ := hX t t.isLt ht
  obtain ⟨i0, i1⟩ := ix0_2 t
  have q0 := Pipeline.Window.rect_emb_val win0_2 t y 0
  have q1 := Pipeline.Window.rect_emb_val win0_2 t y 1
  replace q0 : ((((cfg0.win 2).blk t).view.emb y) 0).val = t.val * 4096 + (y 0).val := q0.trans (by rw [show win0_2.index t 0 = t.val from i0]; rfl)
  replace q1 : ((((cfg0.win 2).blk t).view.emb y) 1).val = (y 1).val := q1.trans (by rw [show win0_2.index t 1 = 0 from i1]; show 0 * 128 + _ = _; omega)
  rw [q0, q1] at hk
  refine hP (((cfg0.win 2).xinj (cfg0.grid.coords t) y)) k ?_
  rcases hk with ⟨a, b⟩ | ⟨a, b⟩
  · exact .inl ⟨a, by rw [b]; show _ = 4096 * t.val + (y 0).val; omega⟩
  · exact .inr ⟨a, by rw [b]; show _ = 4096 * (t.val + 122) + (y 0).val; omega⟩

theorem arr1 [∀ e, Nonempty (Elt F e)] (c : Dev nD) (G : S204800x64.Idx → F .f32) (h : (rd1 g fl f12 c).ArrAt 2 cfg2.N G) : G = sel (g c) (fl c) := by
  obtain ⟨X, hX, hA⟩ := h.exists_exact
  let aft : (w' : Fin cfg2.W) → Fin cfg2.N → (cfg2.win w').block.Idx → Elt F (cfg2.win w').elt := fun w u => match w with | 2 => X u | 0 => fun _ => Classical.arbitrary _ | 1 => fun _ => Classical.arbitrary _
  have hG := hA aft (fun _ _ _ => rfl)
  funext j
  rw [hG]
  refine Pipeline.Dat.arrAt_forall_of_covers (cfg := cfg2) (c := c) ((rd1 g fl f12 c).withAfter aft) (2 : Fin 3) (fun j v => v = sel (g c) (fl c) j)
    covers2 ?_ j (Memref.isWhole_whole _)
  intro t ht y
  obtain ⟨Y, -, hP⟩ := hX t t.isLt ht
  obtain ⟨i0, i1⟩ := ix2_2 t
  have q0 := Pipeline.Window.rect_emb_val win2_2 t y 0
  have q1 := Pipeline.Window.rect_emb_val win2_2 t y 1
  replace q0 : ((((cfg2.win 2).blk t).view.emb y) 0).val = t.val * 2048 + (y 0).val := q0.trans (by rw [show win2_2.index t 0 = t.val from i0]; rfl)
  replace q1 : ((((cfg2.win 2).blk t).view.emb y) 1).val = (y 1).val := q1.trans (by rw [show win2_2.index t 1 = 0 from i1]; show 0 * 64 + _ = _; omega)
  exact hP (((cfg2.win 2).xinj (cfg2.grid.coords t) y)) _ (q0.trans (by show _ = 2048 * t.val + (y 0).val; omega)) q1

end Dats

end Cert.Proof.Emb

end
-- ==== Proof.Regs.lean ====
/-
  The two grid calls as regions of the host program.
-/
module

public import proofs.«01_k».proof.Proof.Pack

@[expose] public section

noncomputable section

namespace Cert.Proof.Emb

open Cert.KernelIdeal Cert.KernelIdeal.Gen
open Idealize.ShloMosaic
open Idealize.ShloMosaic.TcCoe
open Idealize.ShloMosaic.SparseCore (S V T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

abbrev v0Loc (d : Dev nD) : Loc nD τ sig := (SparseCore.T d).loc main_v0
abbrev v5Loc (d : Dev nD) : Loc nD τ sig := (SparseCore.T d).loc main_v5
abbrev v12Loc (d : Dev nD) : Loc nD τ sig := (SparseCore.T d).loc main_v12

section Regs

variable (vt : Dev nD → S64x1000000.Idx → F .f32) (f1 : Dev nD → S503808x128.Idx → F .f32) (g : Dev nD → S204800x128.Idx → F .f32)
  (fl : Dev nD → S204800.Idx → BitVec 32) (f12 : Dev nD → S204800x64.Idx → F .f32)

/-! ## The arrays at a grid call's ends -/

theorem set0_0 : (cfg0.win (0 : Fin 3)).arr.view.set = Finset.univ := View.set_whole _
theorem set0_2 : (cfg0.win (2 : Fin 3)).arr.view.set = Finset.univ := View.set_whole _
theorem set2_0 : (cfg2.win (0 : Fin 3)).arr.view.set = Finset.univ := View.set_whole _
theorem set2_1 : (cfg2.win (1 : Fin 3)).arr.view.set = Finset.univ := View.set_whole _
theorem set2_2 : (cfg2.win (2 : Fin 3)).arr.view.set = Finset.univ := View.set_whole _

theorem arrays0 (c : Dev nD) :
    iprop((v0Loc c ↦{fullShare} vt c) ∗ (v1Loc c ↦{fullShare} f1 c)) ⊢ ((rd0 vt f1 c).arrays (rd0 vt f1 c).A : sProp 𝕄) := by
  unfold RDat.arrays
  rw [bigSep_W0, set0_0, set0_2]
  iintro ⟨H0, H1⟩
  ihave H := (pointsTo_share (PosShare.mem_left_op_right fullShare)).1 $$ H0
  icases H with ⟨Ha, Hb⟩
  isplitl [Ha]; · iexact Ha
  isplitl [Hb]; · iexact Hb
  iexact H1

theorem arraysAt0 [∀ e, Nonempty (Elt F e)] (c : Dev nD) :
    ((rd0 vt f1 c).arraysAt cfg0.N : sProp 𝕄) ⊢ iprop((v0Loc c ↦{fullShare} vt c) ∗ ∃ f, ⌜Packed (vt c) f⌝ ∗ (v1Loc c ↦{fullShare} f)) := by
  unfold RDat.arraysAt
  rw [bigSep_W0, set0_0, set0_2, (rd0 vt f1 c).ArrAt_in 0 rfl, (rd0 vt f1 c).ArrAt_in 1 rfl]
  iintro ⟨⟨%F0, %e0, H0⟩, ⟨%F1, %e1, H1⟩, ⟨%F2, %e2, H2⟩⟩
  subst e0; subst e1
  isplitl [H0 H1]
  · iapply (pointsTo_share (ℓ := v0Loc c) (I := Finset.univ) (f := vt c) (PosShare.mem_left_op_right fullShare)).2
    isplitl [H0]; · iexact H0
    iexact H1
  iexists F2
  isplitl []; · ipureintro; exact arr0 vt f1 c F2 e2
  iexact H2

theorem arrays1 (c : Dev nD) :
    iprop((v11Loc c ↦{fullShare} g c) ∗ (v5Loc c ↦{fullShare} fl c) ∗ (v12Loc c ↦{fullShare} f12 c)) ⊢ ((rd1 g fl f12 c).arrays (rd1 g fl f12 c).A : sProp 𝕄) := by
  unfold RDat.arrays
  rw [bigSep_W2, set2_0, set2_1, set2_2]
  iintro ⟨H0, H1, H2⟩
  isplitl [H0]; · iexact H0
  isplitl [H1]; · iexact H1
  iexact H2

theorem arraysAt1 [∀ e, Nonempty (Elt F e)] (c : Dev nD) :
    ((rd1 g fl f12 c).arraysAt cfg2.N : sProp 𝕄) ⊢ (v12Loc c ↦{fullShare} sel (g c) (fl c)) := by
  unfold RDat.arraysAt
  rw [bigSep_W2, set2_0, set2_1, set2_2]
  iintro ⟨-, -, ⟨%F2, %e2, H2⟩⟩
  rw [← arr1 g fl f12 c F2 e2]
  iexact H2

/-! ## What the core owes while a grid call runs -/

/-- What it owes before call `n` of the SparseCores, its recorded waits below that call's levels. -/
def owing (c : Dev nD) (n : ℕ) : sProp 𝕄 :=
  iprop(∃ W, ⌜(K (F := F)).WBelow (SparseCore.T c) W (8 * n)⌝ ∗ owes (SparseCore.T c) ((K (F := F)).Otc c n) W)

theorem owing_in0 (c : Dev nD) : owing (F := F) c 0 ⊢ (rd0 vt f1 c).owesAt none 0 := by
  unfold owing RDat.owesAt Pipeline.owesWithin
  iintro ⟨%W, %hW, H⟩
  iexists W
  isplitl []; · ipureintro; exact fun p hp => Or.inl (hW p hp)
  iexact H

theorem owing_out0 (c : Dev nD) : (rd0 vt f1 c).owesAt none (Fin.last cfg0.N) ⊢ owing (F := F) c 0 := by
  unfold owing RDat.owesAt Pipeline.owesWithin
  iintro ⟨%W, %hW, H⟩
  iexists W
  isplitl []
  · ipureintro; intro p hp
    rcases hW hp with h | ⟨w, s, rfl⟩
    · exact h
    · exact Nat.zero_le _
  iexact H

theorem owing_in1 (c : Dev nD) : owing (F := F) c 1 ⊢ (rd1 g fl f12 c).owesAt none 0 := by
  unfold owing RDat.owesAt Pipeline.owesWithin
  iintro ⟨%W, %hW, H⟩
  iexists W
  isplitl []; · ipureintro; exact fun p hp => Or.inl (hW p hp)
  iexact H

theorem owing_out1 (c : Dev nD) : (rd1 g fl f12 c).owesAt none (Fin.last cfg2.N) ⊢ owing (F := F) c 1 := by
  unfold owing RDat.owesAt Pipeline.owesWithin
  iintro ⟨%W, %hW, H⟩
  iexists W
  isplitl []
  · ipureintro; intro p hp
    rcases hW hp with h | ⟨w, s, rfl⟩
    · exact h
    · exact Nat.zero_le _
  iexact H

theorem owed_above (c : Dev nD) (n : ℕ) : ∀ (g : GSem nD τ sig) (i : HIx 1), 0 < (K (F := F)).Otc c n g i → i ∈ (K (F := F)).L g ∧ 8 * n < (K (F := F)).lev g i :=
  fun g i h => ⟨Finset.mem_univ _, (K (F := F)).lev_of_Otc_pos h⟩

/-! ## The two grid calls -/

set_option backward.isDefEq.respectTransparency.types false in
/-- The packing call. -/
def reg0 [∀ e, Nonempty (Elt F e)] :
    RDat.RegionSeg (pcfgs (F := F)) adm (rds vt f1 g fl f12) none defs₀ 𝒱₀ (K (F := F)).L (K (F := F)).lev 0 where
  win := winFacts₀0
  block_pos := block_pos0
  stage_whole := stage_whole0
  K := PEmpty
  osem k := k.elim
  ho := Pipeline.OwnSemFacts.none _
  hbody c := body0 vt f1 c
  hwaits c := RDat.cellsWaits_of_cut (Pipeline.pin (pcfgs (F := F)) adm) (rds vt f1 g fl f12) none 0 c (8 * 0) ((K (F := F)).Otc c 0) (fun _ => rfl)
    (fun _ _ => Finset.mem_univ _) (fun _ _ => Nat.zero_le _) (owed_above c 0)
  pre c := iprop((v0Loc c ↦{fullShare} vt c) ∗ (v1Loc c ↦{fullShare} f1 c) ∗ owing (F := F) c 0)
  post c := iprop((∃ f, ⌜Packed (vt c) f⌝ ∗ (v1Loc c ↦{fullShare} f)) ∗ owing (F := F) c 0)
  X _ := BI.emp
  Y _ := BI.emp
  Z _ := BI.emp
  hentry c := by
    rw [Pipeline.ownSems0_none]
    iintro ⟨⟨H0, H1, HO⟩, -, -⟩
    ihave Ha := (arrays0 vt f1 c) $$ [H0 H1]
    · isplitl [H0] <;> iassumption
    ihave HO := (owing_in0 vt f1 c) $$ HO
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (rds vt f1 g fl f12 0 c).Φ 0 = Pipeline.scopedRest spec0 c from rfl]
    iintro ⟨-, -, Hr⟩; iexact Hr
  hout c := by
    rw [Pipeline.ownSems0_none, show (rds vt f1 g fl f12 0 c).Φ (Fin.last _) = Pipeline.scopedRest spec0 c from rfl]
    iintro Hr
    isplitr; · iempintro
    isplitr; · iempintro
    iexact Hr
  hexit c := by
    have hO : (rds vt f1 g fl f12 0 c).owesAt none (Fin.last (Pipeline.pin (pcfgs (F := F)) adm 0).N) ⊢ owing (F := F) c 0 := owing_out0 vt f1 c
    have hA : ((rds vt f1 g fl f12 0 c).arraysAt (Pipeline.pin (pcfgs (F := F)) adm 0).N : sProp 𝕄) ⊢ _ := arraysAt0 vt f1 c
    iintro ⟨Ha, HO, -, -⟩
    ihave HO := hO $$ HO
    ihave Ha := hA $$ Ha
    icases Ha with ⟨-, Ha⟩
    imodintro
    isplitl [Ha]; · iexact Ha
    iexact HO

set_option backward.isDefEq.respectTransparency.types false in
/-- The selecting call. -/
def reg1 [∀ e, Nonempty (Elt F e)] :
    RDat.RegionSeg (pcfgs (F := F)) adm (rds vt f1 g fl f12) none defs₀ 𝒱₀ (K (F := F)).L (K (F := F)).lev 1 where
  win := winFacts2.to₀
  block_pos := block_pos2
  stage_whole := stage_whole2
  K := PEmpty
  osem k := k.elim
  ho := Pipeline.OwnSemFacts.none _
  hbody c := body1 g fl f12 c
  hwaits c := RDat.cellsWaits_of_cut (Pipeline.pin (pcfgs (F := F)) adm) (rds vt f1 g fl f12) none 1 c (8 * 1) ((K (F := F)).Otc c 1) (fun _ => rfl)
    (fun _ _ => Finset.mem_univ _) (fun _ _ => Nat.zero_le _) (owed_above c 1)
  pre c := iprop((v11Loc c ↦{fullShare} g c) ∗ (v5Loc c ↦{fullShare} fl c) ∗ (v12Loc c ↦{fullShare} f12 c) ∗ owing (F := F) c 1)
  post c := iprop((v12Loc c ↦{fullShare} sel (g c) (fl c)) ∗ owing (F := F) c 1)
  X _ := BI.emp
  Y _ := BI.emp
  Z _ := BI.emp
  hentry c := by
    rw [Pipeline.ownSems0_none]
    iintro ⟨⟨H0, H1, H2, HO⟩, -, -⟩
    ihave Ha := (arrays1 g fl f12 c) $$ [H0 H1 H2]
    · isplitl [H0]; · iexact H0
      isplitl [H1] <;> iassumption
    ihave HO := (owing_in1 g fl f12 c) $$ HO
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (rds vt f1 g fl f12 1 c).Φ 0 = Pipeline.scopedRest spec2 c from rfl]
    iintro ⟨-, -, Hr⟩; iexact Hr
  hout c := by
    rw [Pipeline.ownSems0_none, show (rds vt f1 g fl f12 1 c).Φ (Fin.last _) = Pipeline.scopedRest spec2 c from rfl]
    iintro Hr
    isplitr; · iempintro
    isplitr; · iempintro
    iexact Hr
  hexit c := by
    have hO : (rds vt f1 g fl f12 1 c).owesAt none (Fin.last (Pipeline.pin (pcfgs (F := F)) adm 1).N) ⊢ owing (F := F) c 1 := owing_out1 g fl f12 c
    have hA : ((rds vt f1 g fl f12 1 c).arraysAt (Pipeline.pin (pcfgs (F := F)) adm 1).N : sProp 𝕄) ⊢ _ := arraysAt1 g fl f12 c
    iintro ⟨Ha, HO, -, -⟩
    ihave HO := hO $$ HO
    ihave Ha := hA $$ Ha
    imodintro
    isplitl [Ha]; · iexact Ha
    iexact HO

end Regs

end Cert.Proof.Emb

end
-- ==== Proof.Host.lean ====
/-
  The host program's operations and their values.
-/
module

public import proofs.«01_k».proof.Proof.Regs

@[expose] public section

noncomputable section

namespace Cert.Proof.Emb

open Cert.KernelIdeal Cert.KernelIdeal.Gen
open Idealize.ShloMosaic
open Idealize.ShloMosaic.TcCoe
open Idealize.ShloMosaic.SparseCore (S V T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The host program's operations -/

/-- The table transposed. -/
abbrev opT : HloOp τ sig (Elt F) := StableHlo.unary main_arg1 main_v0
  ((transpose S64x1000000 [1, 0] · transposes_S1000000x64_S64x1000000_1_0) : (⟨S1000000x64, .f32⟩ : BufTy).Contents (Elt F) → (⟨S64x1000000, .f32⟩ : BufTy).Contents (Elt F))
/-- The lookups as one row. -/
abbrev opX : HloOp τ sig (Elt F) := StableHlo.reshape main_arg0 main_v2 (rfl : (.i32 : EltTy) = .i32) shapeCasts_S1024x200_S204800
abbrev opC : HloOp τ sig (Elt F) := StableHlo.nullary main_c (constantI S_ 32 499712#32)
abbrev opB : HloOp τ sig (Elt F) := StableHlo.unary main_c main_v3 (broadcastInDim S204800 ![] bcast_S_S204800 : (⟨S_, .i32⟩ : BufTy).Contents (Elt F) → (⟨S204800, .i32⟩ : BufTy).Contents (Elt F))
/-- Whether each falls in the table's second part. -/
abbrev opGe : HloOp τ sig (Elt F) := StableHlo.binary main_v2 main_v3 main_v4 (cmpi .sge : (⟨S204800, .i32⟩ : BufTy).Contents (Elt F) → (⟨S204800, .i32⟩ : BufTy).Contents (Elt F) → (⟨S204800, .i1⟩ : BufTy).Contents (Elt F))
abbrev opFl : HloOp τ sig (Elt F) := StableHlo.unary main_v4 main_v5 ((extui 32 · natLt_1_32) : (⟨S204800, .i1⟩ : BufTy).Contents (Elt F) → (⟨S204800, .i32⟩ : BufTy).Contents (Elt F))
abbrev opC0 : HloOp τ sig (Elt F) := StableHlo.nullary main_c_0 (constantI S_ 32 0#32)
abbrev opB0 : HloOp τ sig (Elt F) := StableHlo.unary main_c_0 main_v6 (broadcastInDim S204800 ![] bcast_S_S204800 : (⟨S_, .i32⟩ : BufTy).Contents (Elt F) → (⟨S204800, .i32⟩ : BufTy).Contents (Elt F))
abbrev opNe : HloOp τ sig (Elt F) := StableHlo.binary main_v5 main_v6 main_v7 (cmpi .ne : (⟨S204800, .i32⟩ : BufTy).Contents (Elt F) → (⟨S204800, .i32⟩ : BufTy).Contents (Elt F) → (⟨S204800, .i1⟩ : BufTy).Contents (Elt F))
abbrev opC1 : HloOp τ sig (Elt F) := StableHlo.nullary main_c_1 (constantI S_ 32 499712#32)
abbrev opB1 : HloOp τ sig (Elt F) := StableHlo.unary main_c_1 main_v8 (broadcastInDim S204800 ![] bcast_S_S204800 : (⟨S_, .i32⟩ : BufTy).Contents (Elt F) → (⟨S204800, .i32⟩ : BufTy).Contents (Elt F))
abbrev opSub : HloOp τ sig (Elt F) := StableHlo.binary main_v2 main_v8 main_v9 (subi : (⟨S204800, .i32⟩ : BufTy).Contents (Elt F) → (⟨S204800, .i32⟩ : BufTy).Contents (Elt F) → (⟨S204800, .i32⟩ : BufTy).Contents (Elt F))
/-- The packed table's row of each. -/
abbrev opSel : HloOp τ sig (Elt F) := StableHlo.ternary main_v7 main_v9 main_v2 main_v10 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F))
/-- The result in its shape. -/
abbrev opR : HloOp τ sig (Elt F) := StableHlo.reshape main_v12 main_v13 (rfl : (.f32 : EltTy) = .f32) shapeCasts_S204800x64_S1024x200x64

/-- What runs between the packing call and the gather. -/
abbrev mid : List (HloOp τ sig (Elt F)) := [opX, opC, opB, opGe, opFl, opC0, opB0, opNe, opC1, opB1, opSub, opSel]

/-! ## Their values -/

/-- The lookups in a row. -/
def xs (x : S1024x200.Idx → BitVec 32) : S204800.Idx → BitVec 32 := shapeCast S204800 x shapeCasts_S1024x200_S204800
/-- The flags. -/
def flv (x : S1024x200.Idx → BitVec 32) : S204800.Idx → BitVec 32 :=
  extui 32 (cmpi .sge (xs x) (broadcastInDim S204800 ![] bcast_S_S204800 (constantI S_ 32 499712#32))) natLt_1_32
/-- The packed rows. -/
def ixv (x : S1024x200.Idx → BitVec 32) : S204800.Idx → BitVec 32 :=
  select (cmpi .ne (flv x) (broadcastInDim S204800 ![] bcast_S_S204800 (constantI S_ 32 0#32)))
    (subi (xs x) (broadcastInDim S204800 ![] bcast_S_S204800 (constantI S_ 32 499712#32))) (xs x)
/-- The transposed table. -/
def vtv (tb : S1000000x64.Idx → F .f32) : S64x1000000.Idx → F .f32 := transpose S64x1000000 [1, 0] tb transposes_S1000000x64_S64x1000000_1_0

theorem mid_arg0 (V : Valuation τ sig (Elt F)) : StableHlo.after mid V (Proc.devRef .tc main_arg0) = V (Proc.devRef .tc main_arg0) := by
  after_results_simp
theorem mid_v5 (V : Valuation τ sig (Elt F)) : StableHlo.after mid V (Proc.devRef .tc main_v5) = flv (V (Proc.devRef .tc main_arg0)) := by
  after_results_simp
  rfl
theorem mid_v10 (V : Valuation τ sig (Elt F)) : StableHlo.after mid V (Proc.devRef .tc main_v10) = ixv (V (Proc.devRef .tc main_arg0)) := by
  after_results_simp
  rfl

end Cert.Proof.Emb

end
-- ==== Proof.Launch.lean ====
/-
  What the launch is run with, and the steps of the host program.
-/
module

public import proofs.«01_k».proof.Proof.Host

@[expose] public section

noncomputable section

namespace Cert.Proof.Emb

open Cert.KernelIdeal Cert.KernelIdeal.Gen
open Idealize.ShloMosaic
open Idealize.ShloMosaic.TcCoe
open Idealize.ShloMosaic.SparseCore (S V T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The launch's ghost state -/

/-- The grid pipelines' share of it. -/
def EP : Emb UP (MT nD τ sig (HIx 1) (Elt F) ℕ UU ℕ) := (Emb.inl : Emb UP (UP × Counters)).trans embR

instance EP_landsIn : (EP (F := F)).LandsIn (upEmb : UEmb _ 𝕄) := by unfold EP embR; infer_instance

/-- The pipelines, their tables filled. -/
abbrev pins : (p : Fin 2) → Pipeline.Cfg sig Λ₀ := Pipeline.pin (pcfgs (F := F)) adm

theorem pins_inj : Function.Injective (Pipeline.cellOf (nD := nD) (τ := τ) (pins (F := F))) := cellOf_inj

def u₀ : UU := (initOf (K (F := F)).hsCells (K (F := F)).hsToks,
  (initOf (Pipeline.cells (pins (F := F)) pins_inj) (Pipeline.launchToks (pins (F := F)) pins_inj), 1))

/-- What a grid call is entered with. -/
abbrev ghost (p : Fin 2) (d : Dev nD) : sProp 𝕄 :=
  iprop(Pipeline.cellsGhost (pins (F := F)) (EP (F := F)) p d ∗ Pipeline.toksInit (pins (F := F)) (EP (F := F)) p d)
abbrev ghosts (d : Dev nD) : sProp 𝕄 := iprop(ghost (F := F) 0 d ∗ ghost (F := F) 1 d)

theorem ghosts_of (d : Dev nD) :
    iprop((bigSep Finset.univ fun p => Pipeline.cellsGhost (pins (F := F)) (EP (F := F)) p d)
        ∗ bigSep Finset.univ fun p => (Pipeline.toksInit (pins (F := F)) (EP (F := F)) p d : sProp 𝕄)) ⊢ ghosts (F := F) d := by
  rw [Ring.bigSep_fin2, Ring.bigSep_fin2]
  iintro ⟨⟨H0, H1⟩, T0, T1⟩
  isplitl [H0 T0]
  · isplitl [H0] <;> iassumption
  isplitl [H1] <;> iassumption

section Launch

variable (Good : Dev nD → (S503808x128.Idx → F .f32) → Prop) (ix : Dev nD → S204800.Idx → BitVec 32)
  (G : Dev nD → S204800x128.Idx → F .f32)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghosts (F := F) d)
        ∗ bigSep Finset.univ fun thr : Thread nD τ => bigSep Finset.univ fun q : Fin 1 => (P (F := F) Good ix G).x q thr) := by
  unfold u₀
  iintro Hu
  ihave H := (ownU_pair (initOf (K (F := F)).hsCells (K (F := F)).hsToks)
    (initOf (Pipeline.cells (pins (F := F)) pins_inj) (Pipeline.launchToks (pins (F := F)) pins_inj), (1 : Counters))) $$ Hu
  icases H with ⟨HH, HP⟩
  ihave H := (own_pair_emb embR (initOf (Pipeline.cells (pins (F := F)) pins_inj) (Pipeline.launchToks (pins (F := F)) pins_inj)) (1 : Counters)) $$ HP
  icases H with ⟨HP, -⟩
  have hg : (BI.own (((Emb.inl : Emb UP (UP × Counters)).trans embR)
      (initOf (Pipeline.cells (pins (F := F)) pins_inj) (Pipeline.launchToks (pins (F := F)) pins_inj))) : sProp 𝕄) ⊢ _ :=
    Pipeline.fund_ghost (pins (F := F)) (EP (F := F)) pins_inj
  imod hg $$ HP with ⟨Hc, Ht⟩
  imodintro
  isplitl [HH]; · iexact HH
  isplitl [Hc Ht]
  · have hb := (Entails.of_eq (bigSep_sep' (Finset.univ : Finset (Dev nD))
      (Φ := fun d => bigSep Finset.univ fun p => Pipeline.cellsGhost (pins (F := F)) (EP (F := F)) p d)
      (Ψ := fun d => bigSep Finset.univ fun p => (Pipeline.toksInit (pins (F := F)) (EP (F := F)) p d : sProp 𝕄))).symm).trans
      (bigSep_mono' (F := F) Finset.univ fun d _ => ghosts_of (F := F) d)
    iapply hb
    isplitl [Hc] <;> iassumption
  rw [show (bigSep Finset.univ fun thr : Thread nD τ => bigSep Finset.univ fun q : Fin 1 => (P (F := F) Good ix G).x q thr) = bigSep Finset.univ fun _ => iprop(emp) from
    bigSep_congr fun _ _ => bigSep_univ_of_subsingleton (0 : Fin 1), bigSep_nothing]
  iempintro

end Launch

/-! ## The steps of the host program -/

open Idealize.ShloMosaic.StableHlo (held wp_hlo_within) in
/-- One operation, over a set of arrays held whole. -/
theorem hstep (d : Dev nD) (S : Finset (DevRef τ sig)) (op : HloOp τ sig (Elt F)) (hS : op.bufs ⊆ S) (V : Valuation τ sig (Elt F))
    (Q : PUnit → sProp 𝕄) (hf : op.fresh = ∅) :
    iprop(boundary (SparseCore.T d) ∗ (held (SparseCore.T d) S V : sProp 𝕄)
        ∗ ((boundary (SparseCore.T d) ∗ held (SparseCore.T d) S (op.result V)) -∗ Q ⟨⟩))
      ⊢ wp frame (wpE ((K (F := F)).defs (D (F := F))) 𝒱 (SparseCore.T d) none) Set.univ (hlo rfl op fun _ => .ret ⟨⟩) Q := by
  iintro ⟨Hb, Hh, Hk⟩
  iapply (wp_hlo_within 𝒱 (SparseCore.T d) none Set.univ (op := op) (S := S) hS (V := V) hf) $$ [Hb Hh]
  · isplitl [Hb] <;> iassumption
  iintro ⟨Hb, Hh⟩
  rw [wp_ret]; imodintro
  iapply Hk
  isplitl [Hb] <;> iassumption

section Region

variable (vt : Dev nD → S64x1000000.Idx → F .f32) (f1 : Dev nD → S503808x128.Idx → F .f32) (g : Dev nD → S204800x128.Idx → F .f32)
  (fl : Dev nD → S204800.Idx → BitVec 32) (f12 : Dev nD → S204800x64.Idx → F .f32)

/-- A grid call's entry, of its own program and of the whole one. -/
abbrev ent (p : Fin 2) : Prog (TpuEff nD τ sig (Elt F) (ΛP (F := F)) .tc) PUnit := .op (.customCall (Pipeline.entry p) ()) fun _ => .ret ⟨⟩

theorem ent_lift (p : Fin 2) : (Prog.lift (.customCall (SparseCore.inner (Pipeline.entry p)) ()) :
    Prog (TpuEff nD τ sig (Elt F) (SparseCore.Sig (ΛP (F := F)) 1) .tc) PUnit) = SparseCore.liftProg (ent (F := F) p) := rfl

theorem ent_wp (p : Fin 2) (d : Dev nD) (Q : PUnit → sProp 𝕄) :
    wp frame (wpE (D (F := F)) 𝒱 (SparseCore.T d) none) Set.univ (ent (F := F) p) Q
      ⊢ wp frame (wpE ((K (F := F)).defs (D (F := F))) 𝒱 (SparseCore.T d) none) Set.univ
          (Prog.lift (.customCall (SparseCore.inner (Pipeline.entry p)) ())) Q := by
  rw [ent_lift]
  exact (K (F := F)).wp_liftProg (D (F := F)) 𝒱 (SparseCore.T d) Set.univ none (ent (F := F) p) Q

/-- A grid call. -/
theorem gstep [∀ e, Nonempty (Elt F e)] (p : Fin 2)
    (R : RDat.RegionSeg (pcfgs (F := F)) adm (rds vt f1 g fl f12) none defs₀ 𝒱₀ (K (F := F)).L (K (F := F)).lev p) (d : Dev nD) (Q : PUnit → sProp 𝕄) :
    iprop(((boundary (SparseCore.T d) ∗ R.post d) -∗ Q ⟨⟩) ∗ boundary (SparseCore.T d) ∗ R.pre d ∗ levAts (K (F := F)).L (K (F := F)).lev
        ∗ ghost (F := F) p d)
      ⊢ wp frame (wpE ((K (F := F)).defs (D (F := F))) 𝒱 (SparseCore.T d) none) Set.univ
          (Prog.lift (.customCall (SparseCore.inner (Pipeline.entry p)) ())) Q := by
  refine BIBase.Entails.trans ?_ (ent_wp p d Q)
  have hinj : Function.Injective (Pipeline.cellOf (nD := nD) (τ := τ) (Pipeline.pin (pcfgs (F := F)) adm)) := pins_inj
  have h := RDat.RegionSeg.wp (nD := nD) (τ := τ) (sig := sig) (Val := Elt F) (Name := ℕ) (U := UU) (Ix := HIx 1) (Lvl := ℕ) (pcfgs (F := F)) adm (rds vt f1 g fl f12) none hinj (EP (F := F)) (defs₀ (F := F)) 𝒱₀ (K (F := F)).L (K (F := F)).lev R d none
  have hv : ∀ u ∈ (none : Option ((𝒱₀).lift).V), (𝒱₀).lift.lt (Sum.inr ((Pipeline.pin (pcfgs (F := F)) adm p).tripCount + 1)) u := fun u hu => (Option.not_mem_none u hu).elim
  have h2 := h hv (α := PUnit.{1})
  have h3 := h2 (fun _ => Prog.ret PUnit.unit) Q
  refine BIBase.Entails.trans ?_ h3
  refine BIClass.sep_mono ?_ .rfl
  rw [wp_ret]
  iintro Hk Hp
  imodintro
  iapply Hk
  iexact Hp

end Region

end Cert.Proof.Emb

end
-- ==== Proof.Arrays.lean ====
/-
  What the host program's arrays hold, and how they are handed over.
-/
module

public import proofs.«01_k».proof.Proof.Launch

@[expose] public section

noncomputable section

namespace Cert.Proof.Emb

open Cert.KernelIdeal Cert.KernelIdeal.Gen
open Idealize.ShloMosaic
open Idealize.ShloMosaic.TcCoe
open Idealize.ShloMosaic.SparseCore (S V T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## What the host program's arrays hold -/

/-- An index of the transposed table from coordinates. -/
def ixT (a : Fin 64) (b : Fin 1000000) : S64x1000000.Idx := fun | 0 => a | 1 => b | ⟨_ + 2, h⟩ => absurd h (Nat.not_lt.2 (Nat.le_add_left _ _))

/-- The gathered rows: of the packed row a lookup names, the left half then the right. -/
def gv (vt : S64x1000000.Idx → F .f32) (ix : S204800.Idx → BitVec 32) : S204800x128.Idx → F .f32 := fun j =>
  if h : (j 1).val < 64 then vt (ixT ⟨(j 1).val, h⟩ ⟨(ix (ixF ⟨(j 0).val, (j 0).isLt⟩)).toNat % 1000000, Nat.mod_lt _ (by decide)⟩)
  else vt (ixT ⟨(j 1).val - 64, by have : (j 1).val < 128 := (j 1).isLt; omega⟩
    ⟨((ix (ixF ⟨(j 0).val, (j 0).isLt⟩)).toNat + 499712) % 1000000, Nat.mod_lt _ (by decide)⟩)

/-- Every lookup within what the packed table holds in full. -/
def InHalf (ix : S204800.Idx → BitVec 32) : Prop := ∀ j, (ix j).toNat < 500288

theorem InHalf.inRows {ix : S204800.Idx → BitVec 32} (h : InHalf ix) : InRows ix := fun j => by have := h j; omega

theorem gath_packed (vt : S64x1000000.Idx → F .f32) (ix : S204800.Idx → BitVec 32) (h : InHalf ix) (g1 : S503808x128.Idx → F .f32)
    (hp : Packed vt g1) : gath g1 ix h.inRows = gv vt ix := by
  funext j
  have hj : (j 1).val < 128 := (j 1).isLt
  have hi : at1 (d := ![204800]) (j 0) = ixF ⟨(j 0).val, (j 0).isLt⟩ := by
    funext a
    match a with
    | 0 => rfl
  have hb := h (ixF ⟨(j 0).val, (j 0).isLt⟩)
  have hx : (ix (at1 (d := ![204800]) (j 0))).toNat = (ix (ixF ⟨(j 0).val, (j 0).isLt⟩)).toNat := by rw [hi]
  unfold gath gv
  split
  · refine hp _ _ (Or.inl ⟨rfl, ?_⟩)
    exact (Nat.mod_eq_of_lt (by omega)).trans hx.symm
  · rename_i hn
    refine hp _ _ (Or.inr ⟨?_, ?_⟩)
    · exact (show (j 1).val = 64 + ((j 1).val - 64) by omega)
    · exact (Nat.mod_eq_of_lt (by omega)).trans (congrArg (· + 499712) hx.symm)

/-- The result. -/
def outv (x : S1024x200.Idx → BitVec 32) (tb : S1000000x64.Idx → F .f32) : S1024x200x64.Idx → F .f32 :=
  shapeCast S1024x200x64 (sel (gv (vtv tb) (ixv x)) (flv x)) shapeCasts_S204800x64_S1024x200x64

/-! ## The host program's arrays -/

abbrev arg0' : DevRef τ sig := Proc.devRef .tc (main_arg0 : Ref sig .tc)
abbrev arg1' : DevRef τ sig := Proc.devRef .tc (main_arg1 : Ref sig .tc)
abbrev v0' : DevRef τ sig := Proc.devRef .tc (main_v0 : Ref sig .tc)
abbrev v5' : DevRef τ sig := Proc.devRef .tc (main_v5 : Ref sig .tc)
abbrev v10' : DevRef τ sig := Proc.devRef .tc (main_v10 : Ref sig .tc)
abbrev v12' : DevRef τ sig := Proc.devRef .tc (main_v12 : Ref sig .tc)
abbrev v13' : DevRef τ sig := Proc.devRef .tc (main_v13 : Ref sig .tc)

/-- Those only the operations in the middle touch, -/
abbrev SR : Finset (DevRef τ sig) :=
  {Proc.devRef .tc (main_v2 : Ref sig .tc), Proc.devRef .tc (main_c : Ref sig .tc), Proc.devRef .tc (main_v3 : Ref sig .tc),
    Proc.devRef .tc (main_v4 : Ref sig .tc), Proc.devRef .tc (main_c_0 : Ref sig .tc), Proc.devRef .tc (main_v6 : Ref sig .tc),
    Proc.devRef .tc (main_v7 : Ref sig .tc), Proc.devRef .tc (main_c_1 : Ref sig .tc), Proc.devRef .tc (main_v8 : Ref sig .tc),
    Proc.devRef .tc (main_v9 : Ref sig .tc)}
/-- and all those they touch. -/
abbrev SM : Finset (DevRef τ sig) := insert arg0' (insert v5' (insert v10' SR))
/-- The first operation's and the last's. -/
abbrev SA : Finset (DevRef τ sig) := {arg1', v0'}
abbrev SZ : Finset (DevRef τ sig) := {v12', v13'}

abbrev a0Loc (d : Dev nD) : Loc nD τ sig := (SparseCore.T d).loc main_arg0
abbrev a1Loc (d : Dev nD) : Loc nD τ sig := (SparseCore.T d).loc main_arg1
abbrev v13Loc (d : Dev nD) : Loc nD τ sig := (SparseCore.T d).loc main_v13

open Idealize.ShloMosaic.StableHlo (held)

theorem held_SM (d : Dev nD) (W : Valuation τ sig (Elt F)) :
    (held (SparseCore.T d) SM W : sProp 𝕄)
      = iprop((a0Loc d ↦{fullShare} W arg0') ∗ (v5Loc d ↦{fullShare} W v5') ∗ (v10Loc d ↦{fullShare} W v10') ∗ held (SparseCore.T d) SR W) := by
  unfold held SM
  rw [SparseCore.bigSep_insert' (by decide), SparseCore.bigSep_insert' (by decide), SparseCore.bigSep_insert' (by decide)]
theorem held_SA (d : Dev nD) (W : Valuation τ sig (Elt F)) :
    (held (SparseCore.T d) SA W : sProp 𝕄) = iprop((a1Loc d ↦{fullShare} W arg1') ∗ (v0Loc d ↦{fullShare} W v0')) := by
  unfold held SA
  rw [SparseCore.bigSep_insert' (by decide), bigSep_singleton]
theorem held_SZ (d : Dev nD) (W : Valuation τ sig (Elt F)) :
    (held (SparseCore.T d) SZ W : sProp 𝕄) = iprop((v12Loc d ↦{fullShare} W v12') ∗ (v13Loc d ↦{fullShare} W v13')) := by
  unfold held SZ
  rw [SparseCore.bigSep_insert' (by decide), bigSep_singleton]

/-- The packed table and the gathered rows. -/
abbrev SG : Finset (DevRef τ sig) := {Proc.devRef .tc (main_v1 : Ref sig .tc), Proc.devRef .tc (main_v11 : Ref sig .tc)}

theorem held_SG (d : Dev nD) (W : Valuation τ sig (Elt F)) :
    (held (SparseCore.T d) SG W : sProp 𝕄) = iprop((v1Loc d ↦{fullShare} W (Proc.devRef .tc (main_v1 : Ref sig .tc)))
      ∗ (v11Loc d ↦{fullShare} W (Proc.devRef .tc (main_v11 : Ref sig .tc)))) := by
  unfold held SG
  rw [SparseCore.bigSep_insert' (by decide), bigSep_singleton]

/-- All of them. -/
abbrev SU : Finset (DevRef τ sig) :=
  SA ∪ (SM ∪ (SZ ∪ SG))

theorem unscoped_held (d : Dev nD) (W : Valuation τ sig (Elt F)) :
    (unscopedBufs d (fun b => W (Proc.devRef .tc b)) : sProp 𝕄)
      = iprop(held (SparseCore.T d) SA W ∗ held (SparseCore.T d) SM W ∗ held (SparseCore.T d) SZ W
          ∗ (v1Loc d ↦{fullShare} W (Proc.devRef .tc (main_v1 : Ref sig .tc))) ∗ (v11Loc d ↦{fullShare} W (Proc.devRef .tc (main_v11 : Ref sig .tc)))) := by
  have h0 : (unscopedBufs d (fun b => W (Proc.devRef .tc b)) : sProp 𝕄) = held (SparseCore.T d) SU W := by
    unfold unscopedBufs held
    rw [show SU = (Finset.univ.filter fun b : Ref sig .tc => ¬ b.isScoped).map ⟨Proc.devRef .tc, Proc.devRef_injective .tc⟩ by decide, bigSep_map]
    rfl
  rw [h0, ← held_SG]
  unfold held SU
  rw [SparseCore.bigSep_union' (by decide), SparseCore.bigSep_union' (by decide), SparseCore.bigSep_union' (by decide)]

end Cert.Proof.Emb

end
-- ==== Proof.Main.lean ====
/-
  The host program's run.
-/
module

public import proofs.«01_k».proof.Proof.Arrays

@[expose] public section

noncomputable section

namespace Cert.Proof.Emb

open Cert.KernelIdeal Cert.KernelIdeal.Gen
open Idealize.ShloMosaic
open Idealize.ShloMosaic.TcCoe
open Idealize.ShloMosaic.SparseCore (S V T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Main

variable (m : (ℓ : Loc nD τ sig) → Buf (Elt F) ℓ) (ρ : Dev nD → PrngReg)

open Idealize.ShloMosaic.StableHlo (held)

/-- The arguments, -/
abbrev xv (d : Dev nD) : S1024x200.Idx → BitVec 32 := m (a0Loc d)
abbrev tbv (d : Dev nD) : S1000000x64.Idx → F .f32 := m (a1Loc d)
/-- and what the calls take and leave. -/
abbrev vts (d : Dev nD) : S64x1000000.Idx → F .f32 := vtv (tbv m d)
abbrev ixs (d : Dev nD) : S204800.Idx → BitVec 32 := ixv (xv m d)
abbrev fls (d : Dev nD) : S204800.Idx → BitVec 32 := flv (xv m d)
abbrev gs (d : Dev nD) : S204800x128.Idx → F .f32 := gv (vts m d) (ixs m d)
abbrev f1s (d : Dev nD) : S503808x128.Idx → F .f32 := m (v1Loc d)
abbrev f12s (d : Dev nD) : S204800x64.Idx → F .f32 := m (v12Loc d)
abbrev Goods (d : Dev nD) (f : S503808x128.Idx → F .f32) : Prop := Packed (vts m d) f
/-- The gather's payloads. -/
abbrev PP : (K (F := F)).Pay (nD := nD) (Val := Elt F) (Name := ℕ) (U := UU) := P (F := F) (Goods m) (ixs m) (gs m)

/-- The launch memory of a device. -/
def V0 (d : Dev nD) : Valuation τ sig (Elt F) := fun b => m (d, b)

theorem tcSt_out (d : Dev nD) (n : ℕ) :
    ((K (F := F)).tcSt EH d n : sProp 𝕄) ⊢ iprop(owing (F := F) d n ∗ (owing (F := F) d n -∗ (K (F := F)).tcSt EH d n)) := by
  unfold SparseCore.Cfg.tcSt owing
  rw [show SparseCore.Cfg.Blocks.fst 1 1 n = n by simp [SparseCore.Cfg.Blocks.fst]]
  iintro ⟨HO, H⟩
  isplitl [HO]; · iexact HO
  iintro HO
  isplitl [HO]; · iexact HO
  iexact H

theorem tcSt_out' (d : Dev nD) :
    ((K (F := F)).tcSt EH d ((0 : Fin 1).val + 1) : sProp 𝕄) ⊢ iprop(owing (F := F) d 1 ∗ (owing (F := F) d 1 -∗ (K (F := F)).tcSt EH d 1)) :=
  tcSt_out d 1

theorem opT_bufs : (opT (F := F)).bufs ⊆ SA := show ({arg1', v0'} : Finset (DevRef τ sig)) ⊆ SA by decide
theorem opR_bufs : (opR (F := F)).bufs ⊆ SZ := show ({v12', v13'} : Finset (DevRef τ sig)) ⊆ SZ by decide

theorem held_T (d : Dev nD) : (held (SparseCore.T d) SA ((opT (F := F)).result (V0 m d)) : sProp 𝕄)
    = iprop((a1Loc d ↦{fullShare} m (a1Loc d)) ∗ (v0Loc d ↦{fullShare} vts m d)) := by
  rw [held_SA, show (opT (F := F)).result (V0 m d) arg1' = m (a1Loc d) from StableHlo.unary_result_ne _ _ _ _ _ _ (by decide),
    show (opT (F := F)).result (V0 m d) v0' = vts m d from StableHlo.unary_result _ _ _ _ _ _]

theorem held_mid (d : Dev nD) : (held (SparseCore.T d) SM (StableHlo.after mid (V0 m d)) : sProp 𝕄)
    = iprop((a0Loc d ↦{fullShare} m (a0Loc d)) ∗ (v5Loc d ↦{fullShare} fls m d) ∗ (v10Loc d ↦{fullShare} ixs m d)
      ∗ held (SparseCore.T d) SR (StableHlo.after mid (V0 m d))) := by
  rw [held_SM, mid_arg0, mid_v5, mid_v10]; rfl

/-- The same, the operations written one inside the other. -/
theorem held_mid' (d : Dev nD) : (held (SparseCore.T d) SM (opSel.result (opSub.result (opB1.result (opC1.result (opNe.result (opB0.result
      (opC0.result (opFl.result (opGe.result (opB.result (opC.result (opX.result (V0 m d))))))))))))) : sProp 𝕄)
    = iprop((a0Loc d ↦{fullShare} m (a0Loc d)) ∗ (v5Loc d ↦{fullShare} fls m d) ∗ (v10Loc d ↦{fullShare} ixs m d)
      ∗ held (SparseCore.T d) SR (StableHlo.after mid (V0 m d))) :=
  held_mid m d

/-- Before the last operation. -/
def V9 (d : Dev nD) : Valuation τ sig (Elt F) := Function.update (V0 m d) v12' (sel (gs m d) (fls m d))

theorem held_V9 (d : Dev nD) : (held (SparseCore.T d) SZ (V9 m d) : sProp 𝕄)
    = iprop((v12Loc d ↦{fullShare} sel (gs m d) (fls m d)) ∗ (v13Loc d ↦{fullShare} m (v13Loc d))) := by
  rw [held_SZ, show V9 m d v12' = sel (gs m d) (fls m d) from Function.update_self _ _ _,
    show V9 m d v13' = m (v13Loc d) from Function.update_of_ne (show v13' ≠ v12' by decide) _ _]

theorem held_R (d : Dev nD) : (held (SparseCore.T d) SZ ((opR (F := F)).result (V9 m d)) : sProp 𝕄)
    = iprop((v12Loc d ↦{fullShare} sel (gs m d) (fls m d)) ∗ (v13Loc d ↦{fullShare} outv (xv m d) (tbv m d))) := by
  rw [held_SZ, show (opR (F := F)).result (V9 m d) v12' = sel (gs m d) (fls m d) from
      (StableHlo.reshape_result_ne _ _ _ _ _ _ _ (by decide)).trans (Function.update_self _ _ _),
    show (opR (F := F)).result (V9 m d) v13' = outv (xv m d) (tbv m d) from
      (StableHlo.reshape_result _ _ _ _ _ _ _).trans (by
        rw [show V9 m d (Proc.devRef .tc main_v12) = sel (gs m d) (fls m d) from Function.update_self _ _ _]; rfl)]

/-- What the host program leaves: the arguments as they were, and the result. -/
abbrev FIN (d : Dev nD) : sProp 𝕄 :=
  iprop((a0Loc d ↦{fullShare} m (a0Loc d)) ∗ (a1Loc d ↦{fullShare} m (a1Loc d)) ∗ (v13Loc d ↦{fullShare} outv (xv m d) (tbv m d)))

theorem bX : (opX (F := F)).bufs ⊆ SM := show ({arg0', Proc.devRef .tc (main_v2 : Ref sig .tc)} : Finset (DevRef τ sig)) ⊆ SM by decide
theorem bC : (opC (F := F)).bufs ⊆ SM := show ({Proc.devRef .tc (main_c : Ref sig .tc)} : Finset (DevRef τ sig)) ⊆ SM by decide
theorem bB : (opB (F := F)).bufs ⊆ SM := show ({Proc.devRef .tc (main_c : Ref sig .tc), Proc.devRef .tc (main_v3 : Ref sig .tc)} : Finset (DevRef τ sig)) ⊆ SM by decide
theorem bGe : (opGe (F := F)).bufs ⊆ SM :=
  show ({Proc.devRef .tc (main_v2 : Ref sig .tc), Proc.devRef .tc (main_v3 : Ref sig .tc), Proc.devRef .tc (main_v4 : Ref sig .tc)} : Finset (DevRef τ sig)) ⊆ SM by decide
theorem bFl : (opFl (F := F)).bufs ⊆ SM := show ({Proc.devRef .tc (main_v4 : Ref sig .tc), Proc.devRef .tc (main_v5 : Ref sig .tc)} : Finset (DevRef τ sig)) ⊆ SM by decide
theorem bC0 : (opC0 (F := F)).bufs ⊆ SM := show ({Proc.devRef .tc (main_c_0 : Ref sig .tc)} : Finset (DevRef τ sig)) ⊆ SM by decide
theorem bB0 : (opB0 (F := F)).bufs ⊆ SM := show ({Proc.devRef .tc (main_c_0 : Ref sig .tc), Proc.devRef .tc (main_v6 : Ref sig .tc)} : Finset (DevRef τ sig)) ⊆ SM by decide
theorem bNe : (opNe (F := F)).bufs ⊆ SM :=
  show ({Proc.devRef .tc (main_v5 : Ref sig .tc), Proc.devRef .tc (main_v6 : Ref sig .tc), Proc.devRef .tc (main_v7 : Ref sig .tc)} : Finset (DevRef τ sig)) ⊆ SM by decide
theorem bC1 : (opC1 (F := F)).bufs ⊆ SM := show ({Proc.devRef .tc (main_c_1 : Ref sig .tc)} : Finset (DevRef τ sig)) ⊆ SM by decide
theorem bB1 : (opB1 (F := F)).bufs ⊆ SM := show ({Proc.devRef .tc (main_c_1 : Ref sig .tc), Proc.devRef .tc (main_v8 : Ref sig .tc)} : Finset (DevRef τ sig)) ⊆ SM by decide
theorem bSub : (opSub (F := F)).bufs ⊆ SM :=
  show ({Proc.devRef .tc (main_v2 : Ref sig .tc), Proc.devRef .tc (main_v8 : Ref sig .tc), Proc.devRef .tc (main_v9 : Ref sig .tc)} : Finset (DevRef τ sig)) ⊆ SM by decide
theorem bSel : (opSel (F := F)).bufs ⊆ SM :=
  show ({Proc.devRef .tc (main_v7 : Ref sig .tc), Proc.devRef .tc (main_v9 : Ref sig .tc), Proc.devRef .tc (main_v2 : Ref sig .tc), Proc.devRef .tc (main_v10 : Ref sig .tc)} : Finset (DevRef τ sig)) ⊆ SM by decide

/-- The host program on device `d`. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ ghosts (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = _ from unscoped_held d (V0 m d)]
  simp only [main, fn_where.body, wp_bind, wp_pure]
  iintro ⟨#Hctx, Hst, ⟨Hb, ⟨HA, HM, HZ, H1, H11⟩, Hts, -⟩, Hg0, Hg1⟩
  ihave #Hlev := (SparseCore.Cfg.ctx_levAts κ) $$ Hctx
  -- the table transposed, and packed
  iapply (hstep d SA opT opT_bufs (V0 m d) _ rfl)
  isplitl [Hb]; · iexact Hb
  isplitl [HA]; · iexact HA
  iintro ⟨Hb, HA⟩
  ihave HA := (Entails.of_eq (held_T m d)) $$ HA
  icases HA with ⟨Ha1, Hv0⟩
  ihave Hst := (tcSt_out d 0) $$ Hst
  icases Hst with ⟨HO, Hst⟩
  iapply (gstep (vts m) (f1s m) (gs m) (fls m) (f12s m) 0 (reg0 (vts m) (f1s m) (gs m) (fls m) (f12s m)) d) $$ [Hst Hb Hv0 H1 HO Hg0 HM HZ H11 Hts Hg1 Ha1]
  isplitr [Hb Hv0 H1 HO Hg0]
  rotate_left
  · isplitl [Hb]; · iexact Hb
    isplitl [Hv0 H1 HO]
    · unfold reg0; dsimp only
      isplitl [Hv0]; · iexact Hv0
      isplitl [H1]; · iexact H1
      iexact HO
    isplitr; · iexact Hlev
    iexact Hg0
  iintro ⟨Hb, Hp⟩
  ihave Hp := (Entails.of_eq (show ((reg0 (vts m) (f1s m) (gs m) (fls m) (f12s m)).post d : sProp 𝕄)
    = iprop((∃ f, ⌜Packed (vts m d) f⌝ ∗ (v1Loc d ↦{fullShare} f)) ∗ owing (F := F) d 0) from rfl)) $$ Hp
  icases Hp with ⟨⟨%f1, %hf1, H1⟩, HO⟩
  ispecialize Hst $$ HO
  -- the lookups' rows and flags
  iapply (hstep d SM opX bX (V0 m d) _ rfl)
  isplitl [Hb]; · iexact Hb
  isplitl [HM]; · iexact HM
  iintro ⟨Hb, HM⟩
  iapply (hstep d SM opC bC _ _ rfl)
  isplitl [Hb]; · iexact Hb
  isplitl [HM]; · iexact HM
  iintro ⟨Hb, HM⟩
  iapply (hstep d SM opB bB _ _ rfl)
  isplitl [Hb]; · iexact Hb
  isplitl [HM]; · iexact HM
  iintro ⟨Hb, HM⟩
  iapply (hstep d SM opGe bGe _ _ rfl)
  isplitl [Hb]; · iexact Hb
  isplitl [HM]; · iexact HM
  iintro ⟨Hb, HM⟩
  iapply (hstep d SM opFl bFl _ _ rfl)
  isplitl [Hb]; · iexact Hb
  isplitl [HM]; · iexact HM
  iintro ⟨Hb, HM⟩
  iapply (hstep d SM opC0 bC0 _ _ rfl)
  isplitl [Hb]; · iexact Hb
  isplitl [HM]; · iexact HM
  iintro ⟨Hb, HM⟩
  iapply (hstep d SM opB0 bB0 _ _ rfl)
  isplitl [Hb]; · iexact Hb
  isplitl [HM]; · iexact HM
  iintro ⟨Hb, HM⟩
  iapply (hstep d SM opNe bNe _ _ rfl)
  isplitl [Hb]; · iexact Hb
  isplitl [HM]; · iexact HM
  iintro ⟨Hb, HM⟩
  iapply (hstep d SM opC1 bC1 _ _ rfl)
  isplitl [Hb]; · iexact Hb
  isplitl [HM]; · iexact HM
  iintro ⟨Hb, HM⟩
  iapply (hstep d SM opB1 bB1 _ _ rfl)
  isplitl [Hb]; · iexact Hb
  isplitl [HM]; · iexact HM
  iintro ⟨Hb, HM⟩
  iapply (hstep d SM opSub bSub _ _ rfl)
  isplitl [Hb]; · iexact Hb
  isplitl [HM]; · iexact HM
  iintro ⟨Hb, HM⟩
  iapply (hstep d SM opSel bSel _ _ rfl)
  isplitl [Hb]; · iexact Hb
  isplitl [HM]; · iexact HM
  iintro ⟨Hb, HM⟩
  ihave HM := (Entails.of_eq (held_mid' m d)) $$ HM
  icases HM with ⟨Ha0, Hv5, Hv10, -⟩
  -- the gather
  iapply ((K (F := F)).wp_run (D (F := F)) 𝒱 (EH := EH) (P := PP m) κ d 0) $$ [Hst H1 Hv10 H11 Hb Ha0 Ha1 Hv5 HZ Hts Hg1]
  isplitr; · iexact Hctx
  isplitl [Hst]; · iexact Hst
  isplitl [H1 Hv10 H11]
  · iapply (deal (Goods m) (ixs m) (gs m) d f1 hf1 (m (v11Loc d)))
    isplitl [H1]; · iexact H1
    isplitl [Hv10]; · iexact Hv10
    iexact H11
  iintro ⟨Hst, Hdn⟩
  ihave H11 := (collect (Goods m) (ixs m) (gs m) d) $$ Hdn
  ihave Hst := (tcSt_out' d) $$ Hst
  icases Hst with ⟨HO, Hst⟩
  ihave HZ := (Entails.of_eq (held_SZ d (V0 m d))) $$ HZ
  icases HZ with ⟨H12, H13⟩
  -- the halves selected
  iapply (gstep (vts m) (f1s m) (gs m) (fls m) (f12s m) 1 (reg1 (vts m) (f1s m) (gs m) (fls m) (f12s m)) d) $$ [Hst Hb H11 Hv5 H12 HO Hg1 H13 Hts Ha0 Ha1]
  isplitr [Hb H11 Hv5 H12 HO Hg1]
  rotate_left
  · isplitl [Hb]; · iexact Hb
    isplitl [H11 Hv5 H12 HO]
    · unfold reg1; dsimp only
      isplitl [H11]; · iexact H11
      isplitl [Hv5]; · iexact Hv5
      isplitl [H12]; · iexact H12
      iexact HO
    isplitr; · iexact Hlev
    iexact Hg1
  iintro ⟨Hb, Hp⟩
  ihave Hp := (Entails.of_eq (show ((reg1 (vts m) (f1s m) (gs m) (fls m) (f12s m)).post d : sProp 𝕄)
    = iprop((v12Loc d ↦{fullShare} sel (gs m d) (fls m d)) ∗ owing (F := F) d 1) from rfl)) $$ Hp
  icases Hp with ⟨H12, HO⟩
  ispecialize Hst $$ HO
  -- the result in its shape
  iapply (hstep d SZ opR opR_bufs (V9 m d) _ rfl)
  isplitl [Hb]; · iexact Hb
  isplitl [H12 H13]
  · rw [held_V9]
    isplitl [H12]; · iexact H12
    iexact H13
  iintro ⟨Hb, HZ⟩
  ihave HZ := (Entails.of_eq (held_R m d)) $$ HZ
  icases HZ with ⟨-, H13⟩
  imodintro
  isplitl [Hst]; · iexact Hst
  isplitr [Hb Hts]
  · isplitl [Ha0]; · iexact Ha0
    isplitl [Ha1]; · iexact Ha1
    iexact H13
  isplitl [Hb] <;> iassumption

/-! ## The run -/

def fq (d : Dev nD) (s' : Phys nD τ sig (Elt F)) : Prop :=
  s'.mem.mem (a0Loc d) = m (a0Loc d) ∧ s'.mem.mem (a1Loc d) = m (a1Loc d) ∧ s'.mem.mem (v13Loc d) = outv (xv m d) (tbv m d)

set_option maxRecDepth 16384 in
theorem hfin (d : Dev nD) (s' : Phys nD τ sig (Elt F)) : iprop(FIN m d ∗ SI s') ⊢ (⌜fq m d s'⌝ : sProp 𝕄) := by
  iintro ⟨⟨H0, H1, H2⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := v13Loc d) (I := Finset.univ) (q := fullShare) (f := outv (xv m d) (tbv m d))) $$ [HSI H2]
  · isplitl [HSI] <;> iassumption
  icases H with %h2
  ipureintro
  exact ⟨funext fun i => h0 i (Finset.mem_univ i), funext fun i => h1 i (Finset.mem_univ i), funext fun i => h2 i (Finset.mem_univ i)⟩

/-- What a run of the program leaves on every device. -/
def QC : PUnit × MemSt nD τ sig (Elt F) → Prop := fun r =>
  (∀ c : Dev nD, r.2.mem (a0Loc c) = m (a0Loc c) ∧ r.2.mem (a1Loc c) = m (a1Loc c) ∧ r.2.mem (v13Loc c) = outv (xv m c) (tbv m c))
    ∧ r.2.sem = fun _ => 0

theorem run_main [∀ e, Nonempty (Elt F e)] (hpre : ∀ d, InHalf (ixs m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (Goods m) (ixs m) (gs m) (fun d => (hpre d).inRows) (fun d g1 h => gath_packed (vts m d) (ixs m d) (hpre d) g1 h))
    (fun q _ => match q with | 0 => SparseCore.Cfg.VecSplit.of_plain (vecSplit (Goods m) (ixs m) (gs m)))
    m ρ main (fun d => ghosts (F := F) d) (FIN m) (u₀ (F := F)) (sep_elim_left.trans (hu₀ (Goods m) (ixs m) (gs m))) (hmain m ρ) (fq m) (hfin m) (QC m)
    (fun _ h hz => ⟨h, hz⟩)

end Main

end Cert.Proof.Emb

end
-- ==== Proof.Value.lean ====
/-
  The value the kernel leaves: the table's rows, looked up.
-/
module

public import proofs.«01_k».proof.Proof.Arrays

@[expose] public section

noncomputable section

namespace Cert.Proof.Emb

open Cert.KernelIdeal Cert.KernelIdeal.Gen
open Idealize.ShloMosaic
open Idealize.ShloMosaic.TcCoe
open Idealize.ShloMosaic.SparseCore (S V T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Words -/

theorem andi_ofB (p q : Bool) : IntOp.andi (BitVec.ofBool p) (BitVec.ofBool q) = BitVec.ofBool (p && q) := by
  cases p <;> cases q <;> decide
theorem ofB_one (p : Bool) : (BitVec.ofBool p = 1#1) ↔ p = true := by cases p <;> decide

/-- A word passing the precondition's two comparisons is below the table's rows. -/
theorem word_lt (v : BitVec 32) (e : IntOp.andi (IntOp.cmpi .sge v 0#32) (IntOp.cmpi .slt v 1000000#32) = 1#1) : v.toNat < 1000000 := by
  simp only [IntOp.cmpi, andi_ofB, ofB_one, Bool.and_eq_true, BitVec.sle_eq_decide, BitVec.slt_eq_decide, decide_eq_true_eq,
    BitVec.toInt_eq_toNat_cond, BitVec.toNat_ofNat, Nat.reducePow, Nat.reduceMod] at e
  omega

theorem word_toInt (v : BitVec 32) (h : v.toNat < 1000000) : v.toInt = (v.toNat : ℤ) := by
  rw [BitVec.toInt_eq_toNat_cond]; simp only [Nat.reducePow]; split <;> omega
theorem word_slt0 (v : BitVec 32) (h : v.toNat < 1000000) : IntOp.cmpi .slt v 0#32 = 0#1 := by
  have : BitVec.slt v 0#32 = false := by
    simp only [BitVec.slt_eq_decide, word_toInt v h, decide_eq_false_iff_not]; simp
  simp only [IntOp.cmpi, this]; rfl
theorem word_sge0 (v : BitVec 32) (h : v.toNat < 1000000) : IntOp.cmpi .sge v 0#32 = 1#1 := by
  have : BitVec.sle 0#32 v = true := by
    simp only [BitVec.sle_eq_decide, word_toInt v h, decide_eq_true_eq]; simp
  simp only [IntOp.cmpi, this]; rfl
theorem word_sle (v : BitVec 32) (h : v.toNat < 1000000) : IntOp.cmpi .sle v 999999#32 = 1#1 := by
  have : BitVec.sle v 999999#32 = true := by
    simp only [BitVec.sle_eq_decide, word_toInt v h, decide_eq_true_eq, BitVec.toInt_eq_toNat_cond, BitVec.toNat_ofNat, Nat.reducePow, Nat.reduceMod]
    omega
  simp only [IntOp.cmpi, this]; rfl

/-- The flag of a word, -/
def flW (v : BitVec 32) : BitVec 32 := (IntOp.cmpi .sge v 499712#32).setWidth 32
/-- and the packed row it names. -/
def ixWd (v : BitVec 32) : BitVec 32 := Scalar.select (IntOp.cmpi .ne (flW v) 0#32) (v - 499712#32) v

theorem flW_lo (v : BitVec 32) (h : v.toNat < 499712) : flW v = 0#32 := by
  have : BitVec.sle 499712#32 v = false := by
    simp only [BitVec.sle_eq_decide, word_toInt v (by omega), decide_eq_false_iff_not, BitVec.toInt_eq_toNat_cond, BitVec.toNat_ofNat, Nat.reducePow, Nat.reduceMod]
    omega
  simp only [flW, IntOp.cmpi, this]; rfl
theorem flW_hi (v : BitVec 32) (h : 499712 ≤ v.toNat) (h' : v.toNat < 1000000) : flW v = 1#32 := by
  have : BitVec.sle 499712#32 v = true := by
    simp only [BitVec.sle_eq_decide, word_toInt v h', decide_eq_true_eq, BitVec.toInt_eq_toNat_cond, BitVec.toNat_ofNat, Nat.reducePow, Nat.reduceMod]
    omega
  simp only [flW, IntOp.cmpi, this]; rfl
theorem ixWd_lo (v : BitVec 32) (h : v.toNat < 499712) : ixWd v = v := by rw [ixWd, flW_lo v h]; rfl
theorem ixWd_hi (v : BitVec 32) (h : 499712 ≤ v.toNat) (h' : v.toNat < 1000000) : (ixWd v).toNat = v.toNat - 499712 := by
  rw [ixWd, flW_hi v h h', show Scalar.select (IntOp.cmpi .ne (1#32) 0#32) (v - 499712#32) v = v - 499712#32 from rfl, BitVec.toNat_sub]
  simp only [BitVec.toNat_ofNat, Nat.reducePow, Nat.reduceMod]; omega

/-! ## The result -/

def ixX (a : Fin 1024) (b : Fin 200) : S1024x200.Idx := fun | 0 => a | 1 => b | ⟨_ + 2, h⟩ => absurd h (Nat.not_lt.2 (Nat.le_add_left _ _))
def ixTb (a : Fin 1000000) (b : Fin 64) : S1000000x64.Idx := fun | 0 => a | 1 => b | ⟨_ + 2, h⟩ => absurd h (Nat.not_lt.2 (Nat.le_add_left _ _))
def ixO6 (a : Fin 204800) (b : Fin 64) : S204800x64.Idx := fun | 0 => a | 1 => b | ⟨_ + 2, h⟩ => absurd h (Nat.not_lt.2 (Nat.le_add_left _ _))

/-- Every lookup a row of the table. -/
def InTab (x : S1024x200.Idx → BitVec 32) : Prop := ∀ j, (x j).toNat < 1000000

/-- The rows looked up. -/
def look (x : S1024x200.Idx → BitVec 32) (tb : S1000000x64.Idx → F .f32) : S1024x200x64.Idx → F .f32 := fun j =>
  tb (ixTb ⟨(x (ixX (j 0) (j 1))).toNat % 1000000, Nat.mod_lt _ (by decide)⟩ (j 2))

theorem xs_at (x : S1024x200.Idx → BitVec 32) (j : S204800.Idx) (k : S1024x200.Idx) (h : (j 0).val = 200 * (k 0).val + (k 1).val) :
    xs x j = x k := by
  refine shapeCast_apply x _ j k ?_
  rw [Shape.rowMajor_val_one, Shape.rowMajor_val_two]
  show (k 0).val * 200 + (k 1).val = (j 0).val
  omega

theorem flv_at (x : S1024x200.Idx → BitVec 32) (j : S204800.Idx) : flv x j = flW (xs x j) := rfl
theorem ixv_at (x : S1024x200.Idx → BitVec 32) (j : S204800.Idx) : ixv x j = ixWd (xs x j) := rfl

theorem xs_lt {x : S1024x200.Idx → BitVec 32} (h : InTab x) (j : S204800.Idx) : (xs x j).toNat < 1000000 := by
  have hj : (j 0).val < 204800 := (j 0).isLt
  rw [xs_at x j (ixX ⟨(j 0).val / 200, by omega⟩ ⟨(j 0).val % 200, Nat.mod_lt _ (by decide)⟩)
    (show (j 0).val = 200 * ((j 0).val / 200) + (j 0).val % 200 by omega)]
  exact h _

theorem InTab.inHalf {x : S1024x200.Idx → BitVec 32} (h : InTab x) : InHalf (ixv x) := fun j => by
  have hx := xs_lt h j
  rw [ixv_at]
  by_cases hl : (xs x j).toNat < 499712
  · rw [ixWd_lo _ hl]; omega
  · rw [ixWd_hi _ (by omega) hx]; omega

theorem vtv_at (tb : S1000000x64.Idx → F .f32) (a : Fin 64) (b : Fin 1000000) : vtv tb (ixT a b) = tb (ixTb b a) := by
  refine transpose_apply _ tb _ _ _ fun c => ?_
  match c with
  | ⟨0, _⟩ => rfl
  | ⟨1, _⟩ => rfl

theorem sel_lo (g : S204800x128.Idx → F .f32) (fl : S204800.Idx → BitVec 32) (n : Fin 204800) (c : Fin 64) (h : fl (ixF n) = 0#32) :
    sel g fl (ixO6 n c) = g (ixG n ⟨c.val, by omega⟩) := by
  refine congrArg g (congrArg (ixG n) (Fin.ext ?_))
  show (if fl (ixF n) = 0#32 then 0 else 64) + c.val = c.val
  rw [h]; simp
theorem sel_hi (g : S204800x128.Idx → F .f32) (fl : S204800.Idx → BitVec 32) (n : Fin 204800) (c : Fin 64) (h : fl (ixF n) = 1#32) :
    sel g fl (ixO6 n c) = g (ixG n ⟨64 + c.val, by omega⟩) := by
  refine congrArg g (congrArg (ixG n) (Fin.ext ?_))
  show (if fl (ixF n) = 0#32 then 0 else 64) + c.val = 64 + c.val
  rw [h]; simp
theorem gv_lo (vt : S64x1000000.Idx → F .f32) (ix : S204800.Idx → BitVec 32) (n : Fin 204800) (c : Fin 64) :
    gv vt ix (ixG n ⟨c.val, by omega⟩) = vt (ixT c ⟨(ix (ixF n)).toNat % 1000000, Nat.mod_lt _ (by decide)⟩) :=
  dif_pos c.isLt
theorem gv_hi (vt : S64x1000000.Idx → F .f32) (ix : S204800.Idx → BitVec 32) (n : Fin 204800) (c : Fin 64) :
    gv vt ix (ixG n ⟨64 + c.val, by omega⟩) = vt (ixT c ⟨((ix (ixF n)).toNat + 499712) % 1000000, Nat.mod_lt _ (by decide)⟩) := by
  refine (dif_neg (show ¬ 64 + c.val < 64 by omega)).trans ?_
  refine congrArg vt (congrArg (fun a => ixT a _) (Fin.ext ?_))
  show 64 + c.val - 64 = c.val
  omega

theorem tb_row (tb : S1000000x64.Idx → F .f32) (n k : ℕ) (hn : n < 1000000) (hk : k < 1000000) (c : Fin 64) (h : n = k) :
    tb (ixTb ⟨n, hn⟩ c) = tb (ixTb ⟨k, hk⟩ c) := by subst h; rfl

theorem outv_eq (x : S1024x200.Idx → BitVec 32) (tb : S1000000x64.Idx → F .f32) (h : InTab x) : outv x tb = look x tb := by
  funext j
  have h0 : (j 0).val < 1024 := (j 0).isLt
  have h1 : (j 1).val < 200 := (j 1).isLt
  have hn : 200 * (j 0).val + (j 1).val < 204800 := by omega
  have hk : outv x tb j = sel (gv (vtv tb) (ixv x)) (flv x) (ixO6 ⟨200 * (j 0).val + (j 1).val, hn⟩ (j 2)) := by
    refine shapeCast_apply _ _ j _ ?_
    rw [Shape.rowMajor_val_two, Shape.rowMajor_val_three]
    show (200 * (j 0).val + (j 1).val) * 64 + (j 2).val = ((j 0).val * 200 + (j 1).val) * 64 + (j 2).val
    omega
  have hx : xs x (ixF ⟨200 * (j 0).val + (j 1).val, hn⟩) = x (ixX (j 0) (j 1)) := xs_at x _ _ rfl
  have hX := h (ixX (j 0) (j 1))
  have hfl : flv x (ixF ⟨200 * (j 0).val + (j 1).val, hn⟩) = flW (x (ixX (j 0) (j 1))) := (flv_at x _).trans (congrArg flW hx)
  have hi : ixv x (ixF ⟨200 * (j 0).val + (j 1).val, hn⟩) = ixWd (x (ixX (j 0) (j 1))) := (ixv_at x _).trans (congrArg ixWd hx)
  refine hk.trans ?_
  by_cases hl : (x (ixX (j 0) (j 1))).toNat < 499712
  · refine (sel_lo _ _ _ _ (hfl.trans (flW_lo _ hl))).trans ((gv_lo _ _ _ _).trans ((vtv_at tb _ _).trans ?_))
    refine tb_row tb _ _ _ _ _ ?_
    show (ixv x (ixF ⟨200 * (j 0).val + (j 1).val, hn⟩)).toNat % 1000000 = (x (ixX (j 0) (j 1))).toNat % 1000000
    rw [hi, ixWd_lo _ hl]
  · refine (sel_hi _ _ _ _ (hfl.trans (flW_hi _ (by omega) hX))).trans ((gv_hi _ _ _ _).trans ((vtv_at tb _ _).trans ?_))
    refine tb_row tb _ _ _ _ _ ?_
    show ((ixv x (ixF ⟨200 * (j 0).val + (j 1).val, hn⟩)).toNat + 499712) % 1000000 = (x (ixX (j 0) (j 1))).toNat % 1000000
    rw [hi, ixWd_hi _ (by omega) hX]; omega

end Cert.Proof.Emb

end
-- ==== Proof.Take.lean ====
/-
  The value the reference leaves: the same rows.
-/
module

public import proofs.«01_k».proof.Proof.Value

@[expose] public section

noncomputable section

namespace Cert.Proof.Emb

open Cert.KernelIdeal Cert.KernelIdeal.Gen
open Idealize.ShloMosaic
open Idealize.ShloMosaic.TcCoe
open Idealize.ShloMosaic.SparseCore (S V T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

abbrev X1024x200x1 : Shape := ⟨3, ![1024, 200, 1]⟩
abbrev X1x1x1 : Shape := ⟨3, ![1, 1, 1]⟩
abbrev X1 : Shape := ⟨1, ![1]⟩

def ixI3 (a : Fin 1024) (b : Fin 200) : X1024x200x1.Idx :=
  fun | 0 => a | 1 => b | 2 => (0 : Fin 1) | ⟨_ + 3, h⟩ => absurd h (Nat.not_lt.2 (Nat.le_add_left _ _))

/-- The gather of whole rows: each lookup's row of the table. -/
abbrev rowsDims (wf : GatherDims.WF S1000000x64 X1024x200x1 S1024x200x64 [2] [0] [] [0] [] 2 ![1, 64]) :
    GatherDims S1000000x64 X1024x200x1 S1024x200x64 where
  offsetDims := [2]
  collapsedSliceDims := [0]
  operandBatchingDims := []
  startIndicesBatchingDims := []
  startIndexMap := [0]
  indexVectorDim := 2
  sliceSizes := ![1, 64]
  wf := wf

theorem rows_apply (wf : GatherDims.WF S1000000x64 X1024x200x1 S1024x200x64 [2] [0] [] [0] [] 2 ![1, 64])
    (tb : S1000000x64.Idx → F .f32) (I : IVec X1024x200x1 32) (j : S1024x200x64.Idx) (hI : (I (ixI3 (j 0) (j 1))).toNat < 1000000) :
    Host.gather (rowsDims wf) tb I j = tb (ixTb ⟨(I (ixI3 (j 0) (j 1))).toNat % 1000000, Nat.mod_lt _ (by decide)⟩ (j 2)) := by
  unfold Host.gather
  refine congrArg tb (funext fun a => Fin.ext ?_)
  show (rowsDims wf).start j I a + (rowsDims wf).batchCoord j a + (rowsDims wf).offCoord j a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 2) ∈ ([0] : List (Fin 2)) from List.mem_singleton.mpr rfl)).trans ?_
    have hs : (rowsDims wf).siIdx j ⟨List.idxOf (0 : Fin 2) (rowsDims wf).startIndexMap,
        List.idxOf_lt_length_iff.2 (List.mem_singleton.mpr rfl)⟩ = ixI3 (j 0) (j 1) := by
      funext b
      refine Fin.ext ?_
      match b with
      | ⟨0, _⟩ => rfl
      | ⟨1, _⟩ => rfl
      | ⟨2, _⟩ => rfl
    refine (congrArg (fun k => min (I k).toInt.toNat (1000000 - 1)) hs).trans ?_
    show min (I (ixI3 (j 0) (j 1))).toInt.toNat (1000000 - 1) = (I (ixI3 (j 0) (j 1))).toNat % 1000000
    rw [word_toInt _ hI]
    omega
  | ⟨1, _⟩ =>
    unfold GatherDims.start GatherDims.offCoord
    refine (congrArg₂ (· + ·) (dif_neg (show (1 : Fin 2) ∉ ([0] : List (Fin 2)) by decide))
      (dif_pos ((GatherDims.mem_sKept _ _).2 ⟨show (1 : Fin 2) ∉ ([0] : List (Fin 2)) by decide, List.not_mem_nil⟩))).trans ?_
    exact Nat.zero_add _

theorem reduce_true (x : X1024x200x1.Idx → BitVec 1) (init : S_.Idx → BitVec 1) {axes : List (Fin X1024x200x1.rank)}
    (h : X1024x200x1.ReducesTo axes S1024x200) (hu : 0 < S_.numel) (hx : ∀ i, x i = 1#1) (hi : ∀ i, init i = 1#1) (j : S1024x200.Idx) :
    Host.reduce IntOp.andi x init h hu j = 1#1 := by
  unfold Host.reduce
  rw [hi]
  generalize List.filter _ _ = l
  induction l with
  | nil => rfl
  | cons a l ih => rw [List.foldl_cons, hx]; exact ih

/-- What the reference computes is the rows looked up. -/
theorem take_eq (x : S1024x200.Idx → BitVec 32) (tb : S1000000x64.Idx → F .f32) (hx : InTab x)
    (h1 : S1024x200.BroadcastsInDim S1024x200x64 ![0, 1]) (h2 : S1024x200.BroadcastsInDim X1024x200x1 ![0, 1])
    (h3 : S_.BroadcastsInDim S1024x200 ![]) (h4 : S_.BroadcastsInDim X1024x200x1 ![]) (h5 : X1x1x1.BroadcastsInDim X1024x200x1 ![0, 1, 2])
    (h6 : X1.BroadcastsInDim X1x1x1 ![2]) (h7 : X1024x200x1.ReducesTo [2] S1024x200) (h8 : 0 < S_.numel)
    (wf : GatherDims.WF S1000000x64 X1024x200x1 S1024x200x64 [2] [0] [] [0] [] 2 ![1, 64]) (cst : S1024x200x64.Idx → F .f32) :
    select (broadcastInDim S1024x200x64 ![0, 1] h1 (Host.reduce IntOp.andi (andi
        (cmpi .sge (broadcastInDim X1024x200x1 ![0, 1] h2 (select (cmpi .slt x (broadcastInDim S1024x200 ![] h3 (constantI S_ 32 0#32)))
          (addi x (broadcastInDim S1024x200 ![] h3 (constantI S_ 32 1000000#32))) x)) (broadcastInDim X1024x200x1 ![] h4 (constantI S_ 32 0#32)))
        (cmpi .sle (broadcastInDim X1024x200x1 ![0, 1] h2 (select (cmpi .slt x (broadcastInDim S1024x200 ![] h3 (constantI S_ 32 0#32)))
          (addi x (broadcastInDim S1024x200 ![] h3 (constantI S_ 32 1000000#32))) x))
          (broadcastInDim X1024x200x1 ![0, 1, 2] h5 (broadcastInDim X1x1x1 ![2] h6 (constantI X1 32 999999#32)))))
        (constantI S_ 1 1#1) h7 h8))
      (Host.gather (rowsDims wf) tb (broadcastInDim X1024x200x1 ![0, 1] h2 (select (cmpi .slt x (broadcastInDim S1024x200 ![] h3 (constantI S_ 32 0#32)))
          (addi x (broadcastInDim S1024x200 ![] h3 (constantI S_ 32 1000000#32))) x))) cst
      = look x tb := by
  have hs : select (cmpi .slt x (broadcastInDim S1024x200 ![] h3 (constantI S_ 32 0#32)))
      (addi x (broadcastInDim S1024x200 ![] h3 (constantI S_ 32 1000000#32))) x = x := by
    funext i
    show Scalar.select (IntOp.cmpi .slt (x i) 0#32) _ (x i) = x i
    rw [word_slt0 _ (hx i)]; rfl
  rw [hs]
  have hI : ∀ i : X1024x200x1.Idx, broadcastInDim X1024x200x1 ![0, 1] h2 x i = x (ixX (i 0) (i 1)) := fun i =>
    broadcastInDim_apply _ h2 x i _ fun a => by
      match a with
      | ⟨0, _⟩ => rfl
      | ⟨1, _⟩ => rfl
  funext j
  have he : ∀ (p : S1024x200x64.Idx → BitVec 1) (a b : S1024x200x64.Idx → F .f32), select p a b j = Scalar.select (p j) (a j) (b j) :=
    fun _ _ _ => rfl
  rw [he]
  have hb : ∀ y : S1024x200.Idx → BitVec 1, broadcastInDim S1024x200x64 ![0, 1] h1 y j = y (ixX (j 0) (j 1)) := fun y =>
    broadcastInDim_apply _ h1 y j _ fun a => by
      match a with
      | ⟨0, _⟩ => rfl
      | ⟨1, _⟩ => rfl
  rw [hb, reduce_true _ (constantI S_ 1 1#1) h7 h8 ?_ (fun _ => rfl)]
  · refine (rows_apply wf tb _ j (by rw [hI]; exact hx _)).trans ?_
    exact tb_row tb _ _ _ _ _ (by rw [hI]; rfl)
  · intro i
    show IntOp.andi (IntOp.cmpi .sge (broadcastInDim X1024x200x1 ![0, 1] h2 x i) 0#32) (IntOp.cmpi .sle (broadcastInDim X1024x200x1 ![0, 1] h2 x i) 999999#32) = 1#1
    rw [hI, word_sge0 _ (hx _), word_sle _ (hx _)]; rfl

end Cert.Proof.Emb

end
-- ==== Proof.Same.lean ====
/-
  The two kernel programs have one text: a run of the one is a run of the other.
-/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.ShloMosaic.TcCoe Idealize.SL.Sem Cert.Kernel

variable {F : FTy → Type} [FloatOps F]

/-- The kernels' bodies are the same on every processor. -/
theorem bodies (p : Proc τ) : Cert.Kernel.defs₀ (F := F) p = Cert.KernelIdeal.defs₀ (F := F) p := by
  funext l a
  match p, l, a with
  | .tc, 0, (t, s) => rfl
  | .tc, 1, _ => rfl
  | .tc, 2, (t, s) => rfl
  | .scVector c s, 0, _ => rfl
  | .scVector c s, 1, _ => rfl
  | .scVector c s, 2, _ => rfl
  | .scScalar c, 0, _ => rfl
  | .scScalar c, 1, _ => rfl
  | .scScalar c, 2, _ => rfl

/-- So are the programs' tables. -/
theorem tables : (fun p => Cert.Kernel.defs (F := F) p) = fun p => Cert.KernelIdeal.defs (F := F) p := by
  have h : Cert.Kernel.defs₀ (F := F) = fun p => Cert.KernelIdeal.defs₀ (F := F) p := funext bodies
  show (fun p => Cert.Kernel.sc.defs (Pipeline.defs Cert.Kernel.pcfgs Cert.Kernel.defs₀) p) = _
  rw [h]; rfl

theorem hosts : (fun t => Cert.Kernel.threads (F := F) t) = fun t => Cert.KernelIdeal.threads (F := F) t := funext fun _ => rfl

theorem runs (s : MemSt Cert.Kernel.nD Cert.Kernel.τ Cert.Kernel.sig (Elt F)) (Q : PUnit × MemSt Cert.Kernel.nD Cert.Kernel.τ Cert.Kernel.sig (Elt F) → Prop)
    (h : θ_run (Cert.KernelIdeal.defs (F := F)) (Cert.KernelIdeal.threads (F := F)) s Q) :
    θ_run (Cert.Kernel.defs (F := F)) (Cert.Kernel.threads (F := F)) s Q := by
  show θ_run (fun p => Cert.Kernel.defs (F := F) p) (fun t => Cert.Kernel.threads (F := F) t) s Q
  rw [tables, hosts]; exact h

end Cert.Proof.Same

end
-- ==== Proof.lean ====
/-
  The claims of this directory, assembled: the frames of the two kernel programs and of the two references, and the two
  value claims, that the kernel leaves at (b, s, c) the table's entry (x(b, s), c), as the reference does.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_idx_in_rows
public import proofs.«01_k».proof.Proof.Main
public import proofs.«01_k».proof.Proof.Take
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem Cert.Kernel

section Any

variable {F : FTy → Type} [FloatOps F]

/-- The precondition gives that every lookup is a row of the table. -/
theorem inTab {x : S1024x200.Idx → BitVec 32} {tb : S1000000x64.Idx → F .f32} (h : Cert.Pre_idx_in_rows.fn (F := F) x tb = fun _ => 1#1) :
    Emb.InTab x := fun j => Emb.word_lt _ (congrFun h j)

/-- The kernel, over any float values: it leaves the rows looked up. -/
theorem kernel_run [∀ e, Nonempty (Elt F e)] (m : (ℓ : Loc Cert.KernelIdeal.nD Cert.KernelIdeal.τ Cert.KernelIdeal.sig) → Buf (Elt F) ℓ)
    (ρ : Dev Cert.KernelIdeal.nD → PrngReg) (h : ∀ c, Emb.InTab (Emb.xv m c)) :
    θ_run (Cert.KernelIdeal.defs (F := F)) (Cert.KernelIdeal.threads (F := F)) ⟨m, fun _ => 0, ρ⟩ fun r =>
      (∀ c, r.2.mem (Emb.a0Loc c) = m (Emb.a0Loc c) ∧ r.2.mem (Emb.a1Loc c) = m (Emb.a1Loc c)
        ∧ r.2.mem (Emb.v13Loc c) = Emb.look (Emb.xv m c) (Emb.tbv m c)) ∧ r.2.sem = fun _ => 0 :=
  (θ_run _ _ _).mono (fun _ hr => ⟨fun c => ⟨(hr.1 c).1, (hr.1 c).2.1, (hr.1 c).2.2.trans (Emb.outv_eq _ _ (h c))⟩, hr.2⟩)
    (Emb.run_main m ρ fun d => (h d).inHalf)

end Any

/-- The kernel's frame, over float words. -/
theorem frame_kernel : Cert.quiescent_Kernel := fun m ρ hp =>
  (θ_run Cert.Kernel.defs _ _).mono (fun _ h => ⟨fun c => ⟨(h.1 c).1, (h.1 c).2.1⟩, h.2⟩)
    (Same.runs _ _ (kernel_run (F := Bits) m ρ fun c => inTab (hp c)))

/-- The kernel's frame, over the extended reals. -/
theorem frame_kernelIdeal : Cert.quiescent_KernelIdeal := fun m ρ hp =>
  (θ_run Cert.KernelIdeal.defs _ _).mono (fun _ h => ⟨fun c => ⟨(h.1 c).1, (h.1 c).2.1⟩, h.2⟩) (kernel_run (F := Ideal) m ρ fun c => inTab (hp c))

/-- The reference's frame, over the extended reals; -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- the same under the precondition; -/
theorem frame_referenceIdeal_pre : Cert.quiescent_ReferenceIdeal_pre_idx_in_rows := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- and over float words. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Over the extended reals the kernel and the reference leave the same array. -/
theorem algebraic : Cert.algebraic_KernelIdeal_ReferenceIdeal := fun m g m' g' hp hm =>
  have ht : ∀ c, Emb.InTab (Emb.xv m c) := fun c => inTab (hp c)
  ⟨fun c => Emb.look (Emb.xv m c) (Emb.tbv m c),
    (θ_run Cert.KernelIdeal.defs _ _).mono (fun _ h c => ⟨(h.1 c).2.2, (h.1 c).1, (h.1 c).2.1⟩) (kernel_run (F := Ideal) m g ht),
    (θ_run Cert.ReferenceIdeal.defs _ _).mono
      (fun _ h c => ⟨(h c).1.trans (by rw [(hm c).1, (hm c).2]; exact Emb.take_eq (F := Ideal) _ _ (ht c) _ _ _ _ _ _ _ _ _ _), (h c).2⟩)
      (Cert.ReferenceIdeal.Value.run (F := Ideal) m' g')⟩

/-- Over float words they leave the same words. -/
theorem bitexact : Cert.bitexact_Kernel_Reference := fun m g m' g' hp hm =>
  have ht : ∀ c, Emb.InTab (Emb.xv (F := Bits) m c) := fun c => inTab (hp c)
  ⟨fun c => Emb.look (F := Bits) (Emb.xv (F := Bits) m c) (Emb.tbv (F := Bits) m c),
    (θ_run Cert.Kernel.defs _ _).mono (fun _ h c => ⟨(h.1 c).2.2, (h.1 c).1, (h.1 c).2.1⟩) (Same.runs _ _ (kernel_run (F := Bits) m g ht)),
    (θ_run Cert.Reference.defs _ _).mono
      (fun _ h c => ⟨(h c).1.trans (by rw [(hm c).1, (hm c).2]; exact Emb.take_eq (F := Bits) _ _ (ht c) _ _ _ _ _ _ _ _ _ _), (h c).2⟩)
      (Cert.Reference.Value.run (F := Bits) m' g')⟩

/-- Everything claimed. -/
theorem claim : Cert.Claim :=
  ⟨Cert.Kernel.Gen.facts, Cert.KernelIdeal.Gen.facts, Cert.ReferenceIdeal.Gen.facts, Cert.Reference.Gen.facts, Cert.Pre_idx_in_rows.Gen.facts,
    frame_kernel, frame_kernelIdeal, frame_referenceIdeal, frame_referenceIdeal_pre, frame_reference, trivial, algebraic, bitexact⟩

end Cert.Proof

end
